-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_v137) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v85) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v11_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_0) = v0 c
          ∧ r.2.mem ((c.tc : Thread Cert.Kernel5Ideal.nD Cert.Kernel5Ideal.τ).loc Cert.Kernel5Ideal.main_v11_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_v19) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S16384x19968 : Shape := ⟨2, ![16384, 19968]⟩
abbrev S3x1024 : Shape := ⟨2, ![3, 1024]⟩
abbrev S4x1024 : Shape := ⟨2, ![4, 1024]⟩
abbrev S1024 : Shape := ⟨1, ![1024]⟩
abbrev S16x64x64 : Shape := ⟨3, ![16, 64, 64]⟩
abbrev S4x4 : Shape := ⟨2, ![4, 4]⟩
abbrev S_ : Shape := ⟨0, ![]⟩
abbrev S4x4x64x64 : Shape := ⟨4, ![4, 4, 64, 64]⟩
abbrev S4x4x64x1x64 : Shape := ⟨5, ![4, 4, 64, 1, 64]⟩
abbrev S4x1x4x1 : Shape := ⟨4, ![4, 1, 4, 1]⟩
abbrev S1x4x1x4x1 : Shape := ⟨5, ![1, 4, 1, 4, 1]⟩
abbrev S4x4x64x4x64 : Shape := ⟨5, ![4, 4, 64, 4, 64]⟩
abbrev S4x256x256 : Shape := ⟨3, ![4, 256, 256]⟩
abbrev S4x256x512 : Shape := ⟨3, ![4, 256, 512]⟩
abbrev S1x1024 : Shape := ⟨2, ![1, 1024]⟩
abbrev S16384x1024 : Shape := ⟨2, ![16384, 1024]⟩
abbrev S256x1024 : Shape := ⟨2, ![256, 1024]⟩
abbrev S264x1024 : Shape := ⟨2, ![264, 1024]⟩
abbrev S8x1024 : Shape := ⟨2, ![8, 1024]⟩
abbrev S256x256 : Shape := ⟨2, ![256, 256]⟩
abbrev S1x256x512 : Shape := ⟨3, ![1, 256, 512]⟩
abbrev S256x512 : Shape := ⟨2, ![256, 512]⟩
abbrev S32x8x1024 : Shape := ⟨3, ![32, 8, 1024]⟩
abbrev S1x8x1024 : Shape := ⟨3, ![1, 8, 1024]⟩

abbrev nBuf : Space → Nat
  | .hbm => 40
  | .vmem => 26
  | .smem => 0
  | _ => 0

abbrev bufTy : (tb : Table) → Fin (tcTables nBuf tb) → BufTy
  | .hbm, ⟨0, _⟩ => ⟨S16384x19968, .bf16⟩
  | .hbm, ⟨1, _⟩ => ⟨S3x1024, .f32⟩
  | .hbm, ⟨2, _⟩ => ⟨S4x1024, .f32⟩
  | .hbm, ⟨3, _⟩ => ⟨S1024, .f32⟩
  | .hbm, ⟨4, _⟩ => ⟨S16x64x64, .f32⟩
  | .hbm, ⟨5, _⟩ => ⟨S1024, .f32⟩
  | .hbm, ⟨6, _⟩ => ⟨S16x64x64, .f32⟩
  | .hbm, ⟨7, _⟩ => ⟨S1024, .f32⟩
  | .hbm, ⟨8, _⟩ => ⟨S1024, .f32⟩
  | .hbm, ⟨9, _⟩ => ⟨S4x4, .i32⟩
  | .hbm, ⟨10, _⟩ => ⟨S4x4, .i32⟩
  | .hbm, ⟨11, _⟩ => ⟨S_, .i32⟩
  | .hbm, ⟨12, _⟩ => ⟨S4x4, .i32⟩
  | .hbm, ⟨13, _⟩ => ⟨S4x4, .i32⟩
  | .hbm, ⟨14, _⟩ => ⟨S4x4, .i1⟩
  | .hbm, ⟨15, _⟩ => ⟨S4x4, .f32⟩
  | .hbm, ⟨16, _⟩ => ⟨S4x4x64x64, .f32⟩
  | .hbm, ⟨17, _⟩ => ⟨S4x4x64x1x64, .f32⟩
  | .hbm, ⟨18, _⟩ => ⟨S4x1x4x1, .f32⟩
  | .hbm, ⟨19, _⟩ => ⟨S1x4x1x4x1, .f32⟩
  | .hbm, ⟨20, _⟩ => ⟨S4x4x64x4x64, .f32⟩
  | .hbm, ⟨21, _⟩ => ⟨S4x4x64x4x64, .f32⟩
  | .hbm, ⟨22, _⟩ => ⟨S4x4x64x4x64, .f32⟩
  | .hbm, ⟨23, _⟩ => ⟨S4x256x256, .f32⟩
  | .hbm, ⟨24, _⟩ => ⟨S4x4x64x64, .f32⟩
  | .hbm, ⟨25, _⟩ => ⟨S4x4x64x1x64, .f32⟩
  | .hbm, ⟨26, _⟩ => ⟨S4x1x4x1, .f32⟩
  | .hbm, ⟨27, _⟩ => ⟨S1x4x1x4x1, .f32⟩
  | .hbm, ⟨28, _⟩ => ⟨S4x4x64x4x64, .f32⟩
  | .hbm, ⟨29, _⟩ => ⟨S4x4x64x4x64, .f32⟩
  | .hbm, ⟨30, _⟩ => ⟨S4x4x64x4x64, .f32⟩
  | .hbm, ⟨31, _⟩ => ⟨S4x256x256, .f32⟩
  | .hbm, ⟨32, _⟩ => ⟨S4x256x512, .f32⟩
  | .hbm, ⟨33, _⟩ => ⟨S4x256x512, .bf16⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S16384x1024, .bf16⟩
  | .hbm, ⟨39, _⟩ => ⟨S16384x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S3x1024, .f32⟩
  | .local _ .vmem, ⟨13, _⟩ => ⟨S4x1024, .f32⟩
  | .local _ .vmem, ⟨14, _⟩ => ⟨S1x1024, .f32⟩
  | .local _ .vmem, ⟨15, _⟩ => ⟨S4x256x512, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S264x1024, .f32⟩
  | .local _ .vmem, ⟨24, _⟩ => ⟨S264x1024, .f32⟩
  | .local _ .vmem, ⟨25, _⟩ => ⟨S8x1024, .f32⟩
  | _, _ => ⟨S16384x19968, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28_0 : Ref sig .tc := ⟨.hbm, 38, rfl⟩
abbrev main_v28_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c13_i32 : BitVec 32 := 13#32
  let c0_i32 : BitVec 32 := 0#32
  ![v1.toNat, c13_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c14_i32 : BitVec 32 := 14#32
  let c0_i32 : BitVec 32 := 0#32
  ![v1.toNat, c14_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c15_i32 : BitVec 32 := 15#32
  let c0_i32 : BitVec 32 := 0#32
  ![v1.toNat, c15_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c16_i32 : BitVec 32 := 16#32
  let c0_i32 : BitVec 32 := 0#32
  ![v1.toNat, c16_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c17_i32 : BitVec 32 := 17#32
  let c0_i32 : BitVec 32 := 0#32
  ![v1.toNat, c17_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c18_i32 : BitVec 32 := 18#32
  let c0_i32 : BitVec 32 := 0#32
  ![v1.toNat, c18_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S16384x19968 : Shape := ⟨2, ![16384, 19968]⟩
abbrev S3x1024 : Shape := ⟨2, ![3, 1024]⟩
abbrev S4x1024 : Shape := ⟨2, ![4, 1024]⟩
abbrev S1024 : Shape := ⟨1, ![1024]⟩
abbrev S16x64x64 : Shape := ⟨3, ![16, 64, 64]⟩
abbrev S16384x1024 : Shape := ⟨2, ![16384, 1024]⟩
abbrev S8x2048x1024 : Shape := ⟨3, ![8, 2048, 1024]⟩
abbrev S_ : Shape := ⟨0, ![]⟩
abbrev S8x2051x1024 : Shape := ⟨3, ![8, 2051, 1024]⟩
abbrev S1x1024 : Shape := ⟨2, ![1, 1024]⟩
abbrev S1x1x1024 : Shape := ⟨3, ![1, 1, 1024]⟩
abbrev S8x2048x16x64 : Shape := ⟨4, ![8, 2048, 16, 64]⟩
abbrev S16x64x8x2048 : Shape := ⟨4, ![16, 64, 8, 2048]⟩
abbrev S8x1024 : Shape := ⟨2, ![8, 1024]⟩
abbrev S2048x8x1024 : Shape := ⟨3, ![2048, 8, 1024]⟩
abbrev S1x8x1024 : Shape := ⟨3, ![1, 8, 1024]⟩
abbrev S8x2050x1024 : Shape := ⟨3, ![8, 2050, 1024]⟩

abbrev nBuf : Space → Nat
  | .hbm => 199
  | .vmem => 0
  | .smem => 0
  | _ => 0

abbrev hbmTy0_0 (i : Nat) : BufTy := match i % 128 with
  | 0 => ⟨S16384x19968, .bf16⟩
  | 1 => ⟨S3x1024, .f32⟩
  | 2 => ⟨S4x1024, .f32⟩
  | 3 => ⟨S1024, .f32⟩
  | 4 => ⟨S16x64x64, .f32⟩
  | 5 => ⟨S1024, .f32⟩
  | 6 => ⟨S16x64x64, .f32⟩
  | 7 => ⟨S1024, .f32⟩
  | 8 => ⟨S1024, .f32⟩
  | 9 => ⟨S16384x1024, .bf16⟩
  | 10 => ⟨S16384x1024, .f32⟩
  | 11 => ⟨S8x2048x1024, .f32⟩
  | 12 => ⟨S_, .i32⟩
  | 13 => ⟨S_, .f32⟩
  | 14 => ⟨S8x2051x1024, .f32⟩
  | 15 => ⟨S1x1024, .f32⟩
  | 16 => ⟨S1024, .f32⟩
  | 17 => ⟨S8x2048x1024, .f32⟩
  | 18 => ⟨S1x1x1024, .f32⟩
  | 19 => ⟨S8x2048x1024, .f32⟩
  | 20 => ⟨S8x2048x1024, .f32⟩
  | 21 => ⟨S1x1024, .f32⟩
  | 22 => ⟨S1024, .f32⟩
  | 23 => ⟨S8x2048x1024, .f32⟩
  | 24 => ⟨S1x1x1024, .f32⟩
  | 25 => ⟨S8x2048x1024, .f32⟩
  | 26 => ⟨S8x2048x1024, .f32⟩
  | 27 => ⟨S8x2048x1024, .f32⟩
  | 28 => ⟨S1x1024, .f32⟩
  | 29 => ⟨S1024, .f32⟩
  | 30 => ⟨S8x2048x1024, .f32⟩
  | 31 => ⟨S1x1x1024, .f32⟩
  | 32 => ⟨S8x2048x1024, .f32⟩
  | 33 => ⟨S8x2048x1024, .f32⟩
  | 34 => ⟨S8x2048x1024, .f32⟩
  | 35 => ⟨S1x1024, .f32⟩
  | 36 => ⟨S1024, .f32⟩
  | 37 => ⟨S8x2048x1024, .f32⟩
  | 38 => ⟨S1x1x1024, .f32⟩
  | 39 => ⟨S8x2048x1024, .f32⟩
  | 40 => ⟨S8x2048x1024, .f32⟩
  | 41 => ⟨S8x2048x1024, .f32⟩
  | 42 => ⟨S1x1x1024, .f32⟩
  | 43 => ⟨S8x2048x1024, .f32⟩
  | 44 => ⟨S8x2048x1024, .f32⟩
  | 45 => ⟨S8x2048x16x64, .f32⟩
  | 46 => ⟨S16x64x8x2048, .f32⟩
  | 47 => ⟨S8x2048x16x64, .f32⟩
  | 48 => ⟨S8x2048x1024, .f32⟩
  | 49 => ⟨S1x1x1024, .f32⟩
  | 50 => ⟨S8x2048x1024, .f32⟩
  | 51 => ⟨S8x2048x1024, .f32⟩
  | 52 => ⟨S8x2048x1024, .f32⟩
  | 53 => ⟨S8x2048x1024, .f32⟩
  | 54 => ⟨S_, .f32⟩
  | 55 => ⟨S8x2048x1024, .f32⟩
  | 56 => ⟨S8x2048x1024, .f32⟩
  | 57 => ⟨S_, .f32⟩
  | 58 => ⟨S8x2048x1024, .f32⟩
  | 59 => ⟨S8x2048x1024, .f32⟩
  | 60 => ⟨S16x64x8x2048, .f32⟩
  | 61 => ⟨S8x2048x16x64, .f32⟩
  | 62 => ⟨S8x2048x1024, .f32⟩
  | 63 => ⟨S1x1x1024, .f32⟩
  | 64 => ⟨S8x2048x1024, .f32⟩
  | 65 => ⟨S8x2048x1024, .f32⟩
  | 66 => ⟨S8x2048x1024, .f32⟩
  | 67 => ⟨S8x2048x1024, .f32⟩
  | 68 => ⟨S_, .f32⟩
  | 69 => ⟨S8x2048x1024, .f32⟩
  | 70 => ⟨S8x2048x1024, .f32⟩
  | 71 => ⟨S_, .f32⟩
  | 72 => ⟨S8x2048x1024, .f32⟩
  | 73 => ⟨S8x2048x1024, .f32⟩
  | 74 => ⟨S_, .f32⟩
  | 75 => ⟨S8x2048x1024, .f32⟩
  | 76 => ⟨S8x2048x1024, .f32⟩
  | 77 => ⟨S1024, .f32⟩
  | 78 => ⟨S_, .f32⟩
  | 79 => ⟨S1024, .f32⟩
  | 80 => ⟨S1024, .f32⟩
  | 81 => ⟨S1024, .f32⟩
  | 82 => ⟨S1024, .f32⟩
  | 83 => ⟨S1024, .i1⟩
  | 84 => ⟨S1024, .f32⟩
  | 85 => ⟨S1024, .f32⟩
  | 86 => ⟨S1024, .f32⟩
  | 87 => ⟨S1024, .f32⟩
  | 88 => ⟨S1024, .f32⟩
  | 89 => ⟨S1024, .f32⟩
  | 90 => ⟨S1024, .f32⟩
  | 91 => ⟨S1024, .f32⟩
  | 92 => ⟨S1x1x1024, .f32⟩
  | 93 => ⟨S8x2048x1024, .f32⟩
  | 94 => ⟨S8x2048x1024, .f32⟩
  | 95 => ⟨S8x2048x1024, .f32⟩
  | 96 => ⟨S_, .f32⟩
  | 97 => ⟨S8x2048x1024, .f32⟩
  | 98 => ⟨S8x2048x1024, .f32⟩
  | 99 => ⟨S8x2048x1024, .f32⟩
  | 100 => ⟨S8x2048x1024, .f32⟩
  | 101 => ⟨S8x2048x1024, .f32⟩
  | 102 => ⟨S8x2048x1024, .f32⟩
  | 103 => ⟨S8x2048x1024, .f32⟩
  | 104 => ⟨S_, .f32⟩
  | 105 => ⟨S8x1024, .f32⟩
  | 106 => ⟨S2048x8x1024, .f32⟩
  | 107 => ⟨S2048x8x1024, .f32⟩
  | 108 => ⟨S_, .f32⟩
  | 109 => ⟨S2048x8x1024, .f32⟩
  | 110 => ⟨S_, .i32⟩
  | 111 => ⟨S2048x8x1024, .f32⟩
  | 112 => ⟨S2048x8x1024, .f32⟩
  | 113 => ⟨S_, .i32⟩
  | 114 => ⟨S8x1024, .f32⟩
  | 115 => ⟨S2048x8x1024, .f32⟩
  | 116 => ⟨S_, .i32⟩
  | 117 => ⟨S_, .i1⟩
  | 118 => ⟨S_, .i32⟩
  | 119 => ⟨S_, .i32⟩
  | 120 => ⟨S1x8x1024, .f32⟩
  | 121 => ⟨S8x1024, .f32⟩
  | 122 => ⟨S_, .i32⟩
  | 123 => ⟨S_, .i32⟩
  | 124 => ⟨S1x8x1024, .f32⟩
  | 125 => ⟨S8x1024, .f32⟩
  | 126 => ⟨S8x1024, .f32⟩
  | 127 => ⟨S8x1024, .f32⟩
  | _ => ⟨S16384x19968, .bf16⟩

abbrev hbmTy0_1 (i : Nat) : BufTy := match i % 128 with
  | 0 => ⟨S1x8x1024, .f32⟩
  | 1 => ⟨S_, .i32⟩
  | 2 => ⟨S_, .i32⟩
  | 3 => ⟨S2048x8x1024, .f32⟩
  | 4 => ⟨S_, .i32⟩
  | 5 => ⟨S_, .i32⟩
  | 6 => ⟨S8x2048x1024, .f32⟩
  | 7 => ⟨S16384x1024, .bf16⟩
  | 8 => ⟨S16384x1024, .f32⟩
  | 9 => ⟨S8x2048x1024, .f32⟩
  | 10 => ⟨S8x2048x1024, .f32⟩
  | 11 => ⟨S8x2048x1024, .f32⟩
  | 12 => ⟨S_, .f32⟩
  | 13 => ⟨S8x2048x1024, .f32⟩
  | 14 => ⟨S8x2048x1024, .f32⟩
  | 15 => ⟨S_, .f32⟩
  | 16 => ⟨S8x2048x1024, .f32⟩
  | 17 => ⟨S8x2048x1024, .f32⟩
  | 18 => ⟨S8x2048x1024, .f32⟩
  | 19 => ⟨S8x2048x1024, .f32⟩
  | 20 => ⟨S16384x1024, .bf16⟩
  | 21 => ⟨S16384x1024, .f32⟩
  | 22 => ⟨S8x2048x1024, .f32⟩
  | 23 => ⟨S16384x1024, .bf16⟩
  | 24 => ⟨S16384x1024, .f32⟩
  | 25 => ⟨S8x2048x1024, .f32⟩
  | 26 => ⟨S16384x1024, .bf16⟩
  | 27 => ⟨S16384x1024, .f32⟩
  | 28 => ⟨S8x2048x1024, .f32⟩
  | 29 => ⟨S8x2048x1024, .f32⟩
  | 30 => ⟨S_, .i32⟩
  | 31 => ⟨S_, .f32⟩
  | 32 => ⟨S8x2050x1024, .f32⟩
  | 33 => ⟨S1x1024, .f32⟩
  | 34 => ⟨S1024, .f32⟩
  | 35 => ⟨S8x2048x1024, .f32⟩
  | 36 => ⟨S1x1x1024, .f32⟩
  | 37 => ⟨S8x2048x1024, .f32⟩
  | 38 => ⟨S8x2048x1024, .f32⟩
  | 39 => ⟨S1x1024, .f32⟩
  | 40 => ⟨S1024, .f32⟩
  | 41 => ⟨S8x2048x1024, .f32⟩
  | 42 => ⟨S1x1x1024, .f32⟩
  | 43 => ⟨S8x2048x1024, .f32⟩
  | 44 => ⟨S8x2048x1024, .f32⟩
  | 45 => ⟨S8x2048x1024, .f32⟩
  | 46 => ⟨S1x1024, .f32⟩
  | 47 => ⟨S1024, .f32⟩
  | 48 => ⟨S8x2048x1024, .f32⟩
  | 49 => ⟨S1x1x1024, .f32⟩
  | 50 => ⟨S8x2048x1024, .f32⟩
  | 51 => ⟨S8x2048x1024, .f32⟩
  | 52 => ⟨S8x2048x1024, .f32⟩
  | 53 => ⟨S8x2048x1024, .f32⟩
  | 54 => ⟨S16384x1024, .bf16⟩
  | 55 => ⟨S16384x1024, .f32⟩
  | 56 => ⟨S8x2048x1024, .f32⟩
  | 57 => ⟨S8x2048x1024, .f32⟩
  | 58 => ⟨S8x2048x1024, .f32⟩
  | 59 => ⟨S_, .f32⟩
  | 60 => ⟨S8x2048x1024, .f32⟩
  | 61 => ⟨S8x2048x1024, .f32⟩
  | 62 => ⟨S_, .f32⟩
  | 63 => ⟨S8x2048x1024, .f32⟩
  | 64 => ⟨S8x2048x1024, .f32⟩
  | 65 => ⟨S8x2048x1024, .f32⟩
  | 66 => ⟨S8x2048x1024, .f32⟩
  | 67 => ⟨S16384x1024, .f32⟩
  | 68 => ⟨S16384x1024, .bf16⟩
  | 69 => ⟨S16384x1024, .f32⟩
  | 70 => ⟨S16384x1024, .bf16⟩
  | _ => ⟨S16384x19968, .bf16⟩

abbrev hbmTy (i : Nat) : BufTy := match i / 128 with
  | 0 => hbmTy0_0 i
  | 1 => hbmTy0_1 i
  | _ => ⟨S16384x19968, .bf16⟩

abbrev bufTy : (tb : Table) → Fin (tcTables nBuf tb) → BufTy
  | .hbm, ⟨i, _⟩ => hbmTy i
  | _, _ => ⟨S16384x19968, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst : Ref sig .tc := ⟨.hbm, 54, rfl⟩
abbrev main_v43 : Ref sig .tc := ⟨.hbm, 55, rfl⟩
abbrev main_v44 : Ref sig .tc := ⟨.hbm, 56, rfl⟩
abbrev main_cst_0 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_1 : Ref sig .tc := ⟨.hbm, 68, rfl⟩
abbrev main_v55 : Ref sig .tc := ⟨.hbm, 69, rfl⟩
abbrev main_v56 : Ref sig .tc := ⟨.hbm, 70, rfl⟩
abbrev main_cst_2 : Ref sig .tc := ⟨.hbm, 71, rfl⟩
abbrev main_v57 : Ref sig .tc := ⟨.hbm, 72, rfl⟩
abbrev main_v58 : Ref sig .tc := ⟨.hbm, 73, rfl⟩
abbrev main_cst_3 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_4 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_5 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_6 : Ref sig .tc := ⟨.hbm, 108, rfl⟩
abbrev main_v77 : Ref sig .tc := ⟨.hbm, 109, rfl⟩
abbrev main_c_7 : Ref sig .tc := ⟨.hbm, 110, rfl⟩
abbrev main_v78_0 : Ref sig .tc := ⟨.hbm, 111, rfl⟩
abbrev main_v78_1 : Ref sig .tc := ⟨.hbm, 112, rfl⟩
abbrev main_v78_2 : Ref sig .tc := ⟨.hbm, 113, rfl⟩
abbrev main_v78_3 : Ref sig .tc := ⟨.hbm, 114, rfl⟩
abbrev main_v78_4 : Ref sig .tc := ⟨.hbm, 115, rfl⟩
abbrev main_while0c_c_17 : Ref sig .tc := ⟨.hbm, 116, rfl⟩
abbrev main_while0c_v138 : Ref sig .tc := ⟨.hbm, 117, rfl⟩
abbrev main_while0b_call2_c : Ref sig .tc := ⟨.hbm, 118, rfl⟩
abbrev main_while0b_call2_c_0 : Ref sig .tc := ⟨.hbm, 119, rfl⟩
abbrev main_while0b_call2_v0 : Ref sig .tc := ⟨.hbm, 120, rfl⟩
abbrev main_while0b_v138 : Ref sig .tc := ⟨.hbm, 121, rfl⟩
abbrev main_while0b_call3_c : Ref sig .tc := ⟨.hbm, 122, rfl⟩
abbrev main_while0b_call3_c_0 : Ref sig .tc := ⟨.hbm, 123, rfl⟩
abbrev main_while0b_call3_v0 : Ref sig .tc := ⟨.hbm, 124, rfl⟩
abbrev main_while0b_v139 : Ref sig .tc := ⟨.hbm, 125, rfl⟩
abbrev main_while0b_v140 : Ref sig .tc := ⟨.hbm, 126, rfl⟩
abbrev main_while0b_v141 : Ref sig .tc := ⟨.hbm, 127, rfl⟩
abbrev main_while0b_call4_v0 : Ref sig .tc := ⟨.hbm, 128, rfl⟩
abbrev main_while0b_call4_c : Ref sig .tc := ⟨.hbm, 129, rfl⟩
abbrev main_while0b_call4_c_0 : Ref sig .tc := ⟨.hbm, 130, rfl⟩
abbrev main_while0b_v142 : Ref sig .tc := ⟨.hbm, 131, rfl⟩
abbrev main_while0b_c_17 : Ref sig .tc := ⟨.hbm, 132, rfl⟩
abbrev main_while0b_v143 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_cst_8 : Ref sig .tc := ⟨.hbm, 140, rfl⟩
abbrev main_v85 : Ref sig .tc := ⟨.hbm, 141, rfl⟩
abbrev main_v86 : Ref sig .tc := ⟨.hbm, 142, rfl⟩
abbrev main_cst_9 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_c_10 : Ref sig .tc := ⟨.hbm, 158, rfl⟩
abbrev main_call5_v0 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_cst_11 : Ref sig .tc := ⟨.hbm, 187, rfl⟩
abbrev main_v128 : Ref sig .tc := ⟨.hbm, 188, rfl⟩
abbrev main_v129 : Ref sig .tc := ⟨.hbm, 189, rfl⟩
abbrev main_cst_12 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S16384x2048 : Shape := ⟨2, ![16384, 2048]⟩
abbrev S8x1x6144 : Shape := ⟨3, ![8, 1, 6144]⟩
abbrev S2x2048x19968 : Shape := ⟨3, ![2, 2048, 19968]⟩
abbrev S2x2048x128 : Shape := ⟨3, ![2, 2048, 128]⟩
abbrev S16384x19968 : Shape := ⟨2, ![16384, 19968]⟩
abbrev S16384x128 : Shape := ⟨2, ![16384, 128]⟩
abbrev S1024x2048 : Shape := ⟨2, ![1024, 2048]⟩
abbrev S1x1x2048 : Shape := ⟨3, ![1, 1, 2048]⟩
abbrev S1x2048x1536 : Shape := ⟨3, ![1, 2048, 1536]⟩
abbrev S1x2048x128 : Shape := ⟨3, ![1, 2048, 128]⟩
abbrev S1024x1536 : Shape := ⟨2, ![1024, 1536]⟩
abbrev S1024x128 : Shape := ⟨2, ![1024, 128]⟩
abbrev S1x2048 : Shape := ⟨2, ![1, 2048]⟩
abbrev S2048x128 : Shape := ⟨2, ![2048, 128]⟩
abbrev S2048x1536 : Shape := ⟨2, ![2048, 1536]⟩

abbrev nBuf : Space → Nat
  | .hbm => 6
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S8x1x6144, .f32⟩
  | .hbm, ⟨2, _⟩ => ⟨S2x2048x19968, .bf16⟩
  | .hbm, ⟨3, _⟩ => ⟨S2x2048x128, .bf16⟩
  | .hbm, ⟨4, _⟩ => ⟨S16384x19968, .bf16⟩
  | .hbm, ⟨5, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048x1536, .bf16⟩
  | .local _ .vmem, ⟨7, _⟩ => ⟨S1x2048x1536, .bf16⟩
  | .local _ .vmem, ⟨8, _⟩ => ⟨S1x2048x128, .bf16⟩
  | .local _ .vmem, ⟨9, _⟩ => ⟨S1024x1536, .bf16⟩
  | .local _ .vmem, ⟨10, _⟩ => ⟨S1024x1536, .bf16⟩
  | .local _ .vmem, ⟨11, _⟩ => ⟨S1024x128, .f32⟩
  | .local _ .vmem, ⟨12, _⟩ => ⟨S1024x128, .f32⟩
  | .local _ .vmem, ⟨13, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 13], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S16384x2048 : Shape := ⟨2, ![16384, 2048]⟩
abbrev S8x1x6144 : Shape := ⟨3, ![8, 1, 6144]⟩
abbrev S2x2048x19968 : Shape := ⟨3, ![2, 2048, 19968]⟩
abbrev S2x2048x128 : Shape := ⟨3, ![2, 2048, 128]⟩
abbrev S8x2048x2048 : Shape := ⟨3, ![8, 2048, 2048]⟩
abbrev S8x6144 : Shape := ⟨2, ![8, 6144]⟩
abbrev S8x2048 : Shape := ⟨2, ![8, 2048]⟩
abbrev S8x1x2048 : Shape := ⟨3, ![8, 1, 2048]⟩
abbrev S_ : Shape := ⟨0, ![]⟩
abbrev S1x2048x19968 : Shape := ⟨3, ![1, 2048, 19968]⟩
abbrev S2048x19968 : Shape := ⟨2, ![2048, 19968]⟩
abbrev S8x2048x19968 : Shape := ⟨3, ![8, 2048, 19968]⟩
abbrev S1x2048x128 : Shape := ⟨3, ![1, 2048, 128]⟩
abbrev S2048x128 : Shape := ⟨2, ![2048, 128]⟩
abbrev S8x2048x128 : Shape := ⟨3, ![8, 2048, 128]⟩
abbrev S16384x19968 : Shape := ⟨2, ![16384, 19968]⟩
abbrev S16384x128 : Shape := ⟨2, ![16384, 128]⟩

abbrev nBuf : Space → Nat
  | .hbm => 29
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x1x6144, .f32⟩
  | .hbm, ⟨2, _⟩ => ⟨S2x2048x19968, .bf16⟩
  | .hbm, ⟨3, _⟩ => ⟨S2x2048x128, .bf16⟩
  | .hbm, ⟨4, _⟩ => ⟨S8x2048x2048, .f32⟩
  | .hbm, ⟨5, _⟩ => ⟨S8x6144, .f32⟩
  | .hbm, ⟨6, _⟩ => ⟨S8x2048, .f32⟩
  | .hbm, ⟨7, _⟩ => ⟨S8x2048, .f32⟩
  | .hbm, ⟨8, _⟩ => ⟨S8x2048, .f32⟩
  | .hbm, ⟨9, _⟩ => ⟨S8x1x2048, .f32⟩
  | .hbm, ⟨10, _⟩ => ⟨S_, .f32⟩
  | .hbm, ⟨11, _⟩ => ⟨S8x1x2048, .f32⟩
  | .hbm, ⟨12, _⟩ => ⟨S8x1x2048, .f32⟩
  | .hbm, ⟨13, _⟩ => ⟨S8x2048x2048, .f32⟩
  | .hbm, ⟨14, _⟩ => ⟨S8x2048x2048, .f32⟩
  | .hbm, ⟨15, _⟩ => ⟨S8x1x2048, .f32⟩
  | .hbm, ⟨16, _⟩ => ⟨S8x2048x2048, .f32⟩
  | .hbm, ⟨17, _⟩ => ⟨S8x2048x2048, .f32⟩
  | .hbm, ⟨18, _⟩ => ⟨S1x2048x19968, .bf16⟩
  | .hbm, ⟨19, _⟩ => ⟨S2048x19968, .bf16⟩
  | .hbm, ⟨20, _⟩ => ⟨S2048x19968, .f32⟩
  | .hbm, ⟨21, _⟩ => ⟨S8x2048x19968, .f32⟩
  | .hbm, ⟨22, _⟩ => ⟨S1x2048x128, .bf16⟩
  | .hbm, ⟨23, _⟩ => ⟨S2048x128, .bf16⟩
  | .hbm, ⟨24, _⟩ => ⟨S2048x128, .f32⟩
  | .hbm, ⟨25, _⟩ => ⟨S8x2048x128, .f32⟩
  | .hbm, ⟨26, _⟩ => ⟨S16384x19968, .f32⟩
  | .hbm, ⟨27, _⟩ => ⟨S16384x19968, .bf16⟩
  | .hbm, ⟨28, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]
-- ==== Kernel3.lean ====
abbrev S16384x1024 : Shape := ⟨2, ![16384, 1024]⟩
abbrev S16384x19968 : Shape := ⟨2, ![16384, 19968]⟩
abbrev S16384x2048 : Shape := ⟨2, ![16384, 2048]⟩
abbrev S8x1x6144 : Shape := ⟨3, ![8, 1, 6144]⟩
abbrev S4x2048 : Shape := ⟨2, ![4, 2048]⟩
abbrev S2x4x1024x2048 : Shape := ⟨4, ![2, 4, 1024, 2048]⟩
abbrev S2x2048x2048 : Shape := ⟨3, ![2, 2048, 2048]⟩
abbrev S2048 : Shape := ⟨1, ![2048]⟩
abbrev S1x2048 : Shape := ⟨2, ![1, 2048]⟩
abbrev S256x1024 : Shape := ⟨2, ![256, 1024]⟩
abbrev S256x8192 : Shape := ⟨2, ![256, 8192]⟩
abbrev S256x2048 : Shape := ⟨2, ![256, 2048]⟩
abbrev S1x1x2048 : Shape := ⟨3, ![1, 1, 2048]⟩
abbrev S1x4x1024x2048 : Shape := ⟨4, ![1, 4, 1024, 2048]⟩
abbrev S1x2048x2048 : Shape := ⟨3, ![1, 2048, 2048]⟩
abbrev S1x1x1024x2048 : Shape := ⟨4, ![1, 1, 1024, 2048]⟩
abbrev S1024x2048 : Shape := ⟨2, ![1024, 2048]⟩
abbrev S2048x2048 : Shape := ⟨2, ![2048, 2048]⟩
abbrev S256 : Shape := ⟨1, ![256]⟩
abbrev S256x1 : Shape := ⟨2, ![256, 1]⟩

abbrev nBuf : Space → Nat
  | .hbm => 17
  | .vmem => 21
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x19968, .bf16⟩
  | .hbm, ⟨5, _⟩ => ⟨S16384x2048, .f32⟩
  | .hbm, ⟨6, _⟩ => ⟨S8x1x6144, .f32⟩
  | .hbm, ⟨7, _⟩ => ⟨S4x2048, .f32⟩
  | .hbm, ⟨8, _⟩ => ⟨S2x4x1024x2048, .f32⟩
  | .hbm, ⟨9, _⟩ => ⟨S2x2048x2048, .f32⟩
  | .hbm, ⟨10, _⟩ => ⟨S2048, .f32⟩
  | .hbm, ⟨11, _⟩ => ⟨S2048, .f32⟩
  | .hbm, ⟨12, _⟩ => ⟨S2x4x1024x2048, .bf16⟩
  | .hbm, ⟨13, _⟩ => ⟨S2x2048x2048, .bf16⟩
  | .hbm, ⟨14, _⟩ => ⟨S1x2048, .f32⟩
  | .hbm, ⟨15, _⟩ => ⟨S1x2048, .f32⟩
  | .hbm, ⟨16, _⟩ => ⟨S16384x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x8192, .bf16⟩
  | .local _ .vmem, ⟨9, _⟩ => ⟨S256x8192, .bf16⟩
  | .local _ .vmem, ⟨10, _⟩ => ⟨S256x2048, .f32⟩
  | .local _ .vmem, ⟨11, _⟩ => ⟨S256x2048, .f32⟩
  | .local _ .vmem, ⟨12, _⟩ => ⟨S1x1x2048, .f32⟩
  | .local _ .vmem, ⟨13, _⟩ => ⟨S1x1x2048, .f32⟩
  | .local _ .vmem, ⟨14, _⟩ => ⟨S4x2048, .f32⟩
  | .local _ .vmem, ⟨15, _⟩ => ⟨S1x4x1024x2048, .bf16⟩
  | .local _ .vmem, ⟨16, _⟩ => ⟨S1x2048x2048, .bf16⟩
  | .local _ .vmem, ⟨17, _⟩ => ⟨S1x2048, .f32⟩
  | .local _ .vmem, ⟨18, _⟩ => ⟨S1x2048, .f32⟩
  | .local _ .vmem, ⟨19, _⟩ => ⟨S256x2048, .f32⟩
  | .local _ .vmem, ⟨20, _⟩ => ⟨S256x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4x1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S16384x1024 : Shape := ⟨2, ![16384, 1024]⟩
abbrev S16384x19968 : Shape := ⟨2, ![16384, 19968]⟩
abbrev S16384x2048 : Shape := ⟨2, ![16384, 2048]⟩
abbrev S8x1x6144 : Shape := ⟨3, ![8, 1, 6144]⟩
abbrev S4x2048 : Shape := ⟨2, ![4, 2048]⟩
abbrev S2x4x1024x2048 : Shape := ⟨4, ![2, 4, 1024, 2048]⟩
abbrev S2x2048x2048 : Shape := ⟨3, ![2, 2048, 2048]⟩
abbrev S2048 : Shape := ⟨1, ![2048]⟩
abbrev S8x2048x2048 : Shape := ⟨3, ![8, 2048, 2048]⟩
abbrev S8x2048x1024 : Shape := ⟨3, ![8, 2048, 1024]⟩
abbrev S16384x8192 : Shape := ⟨2, ![16384, 8192]⟩
abbrev S8x2048x4x2048 : Shape := ⟨4, ![8, 2048, 4, 2048]⟩
abbrev S8x6144 : Shape := ⟨2, ![8, 6144]⟩
abbrev S8x2048 : Shape := ⟨2, ![8, 2048]⟩
abbrev S1x1x4x2048 : Shape := ⟨4, ![1, 1, 4, 2048]⟩
abbrev S_ : Shape := ⟨0, ![]⟩
abbrev S8x2048x1x2048 : Shape := ⟨4, ![8, 2048, 1, 2048]⟩
abbrev S1x1x1024x2048 : Shape := ⟨4, ![1, 1, 1024, 2048]⟩
abbrev S1024x2048 : Shape := ⟨2, ![1024, 2048]⟩
abbrev S1x2048x2048 : Shape := ⟨3, ![1, 2048, 2048]⟩
abbrev S2048x2048 : Shape := ⟨2, ![2048, 2048]⟩
abbrev S8x1x2048 : Shape := ⟨3, ![8, 1, 2048]⟩
abbrev S8x2048x1 : Shape := ⟨3, ![8, 2048, 1]⟩
abbrev S1x1x2048 : Shape := ⟨3, ![1, 1, 2048]⟩

abbrev nBuf : Space → Nat
  | .hbm => 106
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x19968, .bf16⟩
  | .hbm, ⟨5, _⟩ => ⟨S16384x2048, .f32⟩
  | .hbm, ⟨6, _⟩ => ⟨S8x1x6144, .f32⟩
  | .hbm, ⟨7, _⟩ => ⟨S4x2048, .f32⟩
  | .hbm, ⟨8, _⟩ => ⟨S2x4x1024x2048, .f32⟩
  | .hbm, ⟨9, _⟩ => ⟨S2x2048x2048, .f32⟩
  | .hbm, ⟨10, _⟩ => ⟨S2048, .f32⟩
  | .hbm, ⟨11, _⟩ => ⟨S2048, .f32⟩
  | .hbm, ⟨12, _⟩ => ⟨S8x2048x2048, .f32⟩
  | .hbm, ⟨13, _⟩ => ⟨S16384x1024, .f32⟩
  | .hbm, ⟨14, _⟩ => ⟨S8x2048x1024, .f32⟩
  | .hbm, ⟨15, _⟩ => ⟨S16384x1024, .f32⟩
  | .hbm, ⟨16, _⟩ => ⟨S8x2048x1024, .f32⟩
  | .hbm, ⟨17, _⟩ => ⟨S16384x1024, .f32⟩
  | .hbm, ⟨18, _⟩ => ⟨S8x2048x1024, .f32⟩
  | .hbm, ⟨19, _⟩ => ⟨S16384x1024, .f32⟩
  | .hbm, ⟨20, _⟩ => ⟨S8x2048x1024, .f32⟩
  | .hbm, ⟨21, _⟩ => ⟨S16384x8192, .bf16⟩
  | .hbm, ⟨22, _⟩ => ⟨S16384x8192, .f32⟩
  | .hbm, ⟨23, _⟩ => ⟨S8x2048x4x2048, .f32⟩
  | .hbm, ⟨24, _⟩ => ⟨S8x6144, .f32⟩
  | .hbm, ⟨25, _⟩ => ⟨S8x2048, .f32⟩
  | .hbm, ⟨26, _⟩ => ⟨S8x2048, .f32⟩
  | .hbm, ⟨27, _⟩ => ⟨S8x2048, .f32⟩
  | .hbm, ⟨28, _⟩ => ⟨S1x1x4x2048, .f32⟩
  | .hbm, ⟨29, _⟩ => ⟨S8x2048x4x2048, .f32⟩
  | .hbm, ⟨30, _⟩ => ⟨S8x2048x4x2048, .f32⟩
  | .hbm, ⟨31, _⟩ => ⟨S8x2048x4x2048, .f32⟩
  | .hbm, ⟨32, _⟩ => ⟨S8x2048x4x2048, .f32⟩
  | .hbm, ⟨33, _⟩ => ⟨S_, .f32⟩
  | .hbm, ⟨34, _⟩ => ⟨S8x2048x4x2048, .f32⟩
  | .hbm, ⟨35, _⟩ => ⟨S8x2048x4x2048, .f32⟩
  | .hbm, ⟨36, _⟩ => ⟨S_, .f32⟩
  | .hbm, ⟨37, _⟩ => ⟨S8x2048x4x2048, .f32⟩
  | .hbm, ⟨38, _⟩ => ⟨S8x2048x4x2048, .f32⟩
  | .hbm, ⟨39, _⟩ => ⟨S8x2048x1x2048, .f32⟩
  | .hbm, ⟨40, _⟩ => ⟨S8x2048x2048, .f32⟩
  | .hbm, ⟨41, _⟩ => ⟨S1x1x1024x2048, .f32⟩
  | .hbm, ⟨42, _⟩ => ⟨S1024x2048, .f32⟩
  | .hbm, ⟨43, _⟩ => ⟨S8x2048x2048, .f32⟩
  | .hbm, ⟨44, _⟩ => ⟨S8x2048x2048, .f32⟩
  | .hbm, ⟨45, _⟩ => ⟨S8x2048x1x2048, .f32⟩
  | .hbm, ⟨46, _⟩ => ⟨S8x2048x2048, .f32⟩
  | .hbm, ⟨47, _⟩ => ⟨S1x1x1024x2048, .f32⟩
  | .hbm, ⟨48, _⟩ => ⟨S1024x2048, .f32⟩
  | .hbm, ⟨49, _⟩ => ⟨S8x2048x2048, .f32⟩
  | .hbm, ⟨50, _⟩ => ⟨S8x2048x2048, .f32⟩
  | .hbm, ⟨51, _⟩ => ⟨S8x2048x2048, .f32⟩
  | .hbm, ⟨52, _⟩ => ⟨S8x2048x1x2048, .f32⟩
  | .hbm, ⟨53, _⟩ => ⟨S8x2048x2048, .f32⟩
  | .hbm, ⟨54, _⟩ => ⟨S1x1x1024x2048, .f32⟩
  | .hbm, ⟨55, _⟩ => ⟨S1024x2048, .f32⟩
  | .hbm, ⟨56, _⟩ => ⟨S8x2048x2048, .f32⟩
  | .hbm, ⟨57, _⟩ => ⟨S8x2048x2048, .f32⟩
  | .hbm, ⟨58, _⟩ => ⟨S8x2048x2048, .f32⟩
  | .hbm, ⟨59, _⟩ => ⟨S8x2048x1x2048, .f32⟩
  | .hbm, ⟨60, _⟩ => ⟨S8x2048x2048, .f32⟩
  | .hbm, ⟨61, _⟩ => ⟨S1x1x1024x2048, .f32⟩
  | .hbm, ⟨62, _⟩ => ⟨S1024x2048, .f32⟩
  | .hbm, ⟨63, _⟩ => ⟨S8x2048x2048, .f32⟩
  | .hbm, ⟨64, _⟩ => ⟨S8x2048x2048, .f32⟩
  | .hbm, ⟨65, _⟩ => ⟨S8x2048x2048, .f32⟩
  | .hbm, ⟨66, _⟩ => ⟨S1x2048x2048, .f32⟩
  | .hbm, ⟨67, _⟩ => ⟨S2048x2048, .f32⟩
  | .hbm, ⟨68, _⟩ => ⟨S8x2048x2048, .f32⟩
  | .hbm, ⟨69, _⟩ => ⟨S_, .f32⟩
  | .hbm, ⟨70, _⟩ => ⟨S8x2048x2048, .f32⟩
  | .hbm, ⟨71, _⟩ => ⟨S8x2048x2048, .f32⟩
  | .hbm, ⟨72, _⟩ => ⟨S8x1x2048, .f32⟩
  | .hbm, ⟨73, _⟩ => ⟨S8x2048x2048, .f32⟩
  | .hbm, ⟨74, _⟩ => ⟨S8x2048x2048, .f32⟩
  | .hbm, ⟨75, _⟩ => ⟨S8x2048x2048, .f32⟩
  | .hbm, ⟨76, _⟩ => ⟨S_, .f32⟩
  | .hbm, ⟨77, _⟩ => ⟨S8x2048, .f32⟩
  | .hbm, ⟨78, _⟩ => ⟨S8x2048x1, .f32⟩
  | .hbm, ⟨79, _⟩ => ⟨S_, .f32⟩
  | .hbm, ⟨80, _⟩ => ⟨S8x2048x1, .f32⟩
  | .hbm, ⟨81, _⟩ => ⟨S8x2048x1, .f32⟩
  | .hbm, ⟨82, _⟩ => ⟨S8x2048x2048, .f32⟩
  | .hbm, ⟨83, _⟩ => ⟨S8x2048x2048, .f32⟩
  | .hbm, ⟨84, _⟩ => ⟨S8x2048x2048, .f32⟩
  | .hbm, ⟨85, _⟩ => ⟨S_, .f32⟩
  | .hbm, ⟨86, _⟩ => ⟨S8x2048, .f32⟩
  | .hbm, ⟨87, _⟩ => ⟨S8x2048x1, .f32⟩
  | .hbm, ⟨88, _⟩ => ⟨S_, .f32⟩
  | .hbm, ⟨89, _⟩ => ⟨S8x2048x1, .f32⟩
  | .hbm, ⟨90, _⟩ => ⟨S8x2048x1, .f32⟩
  | .hbm, ⟨91, _⟩ => ⟨S8x2048x2048, .f32⟩
  | .hbm, ⟨92, _⟩ => ⟨S8x2048x2048, .f32⟩
  | .hbm, ⟨93, _⟩ => ⟨S_, .f32⟩
  | .hbm, ⟨94, _⟩ => ⟨S8x2048x1, .f32⟩
  | .hbm, ⟨95, _⟩ => ⟨S8x2048x1, .f32⟩
  | .hbm, ⟨96, _⟩ => ⟨S8x2048x1, .f32⟩
  | .hbm, ⟨97, _⟩ => ⟨S8x2048x2048, .f32⟩
  | .hbm, ⟨98, _⟩ => ⟨S8x2048x2048, .f32⟩
  | .hbm, ⟨99, _⟩ => ⟨S1x1x2048, .f32⟩
  | .hbm, ⟨100, _⟩ => ⟨S8x2048x2048, .f32⟩
  | .hbm, ⟨101, _⟩ => ⟨S8x2048x2048, .f32⟩
  | .hbm, ⟨102, _⟩ => ⟨S1x1x2048, .f32⟩
  | .hbm, ⟨103, _⟩ => ⟨S8x2048x2048, .f32⟩
  | .hbm, ⟨104, _⟩ => ⟨S8x2048x2048, .f32⟩
  | .hbm, ⟨105, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_cst_0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_1 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_2 : Ref sig .tc := ⟨.hbm, 76, rfl⟩
abbrev main_v61 : Ref sig .tc := ⟨.hbm, 77, rfl⟩
abbrev main_v62 : Ref sig .tc := ⟨.hbm, 78, rfl⟩
abbrev main_cst_3 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_4 : Ref sig .tc := ⟨.hbm, 85, rfl⟩
abbrev main_v68 : Ref sig .tc := ⟨.hbm, 86, rfl⟩
abbrev main_v69 : Ref sig .tc := ⟨.hbm, 87, rfl⟩
abbrev main_cst_5 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_6 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩

abbrev nD : Nat := 1
abbrev τ : Topo := Topo.v7x

variable {F : FTy → Type} [FloatOps F]
-- ==== Kernel4.lean ====
abbrev S8x2048 : Shape := ⟨2, ![8, 2048]⟩
abbrev S2x2048x6144 : Shape := ⟨3, ![2, 2048, 6144]⟩
abbrev S2x6144 : Shape := ⟨2, ![2, 6144]⟩
abbrev S2x1x6144 : Shape := ⟨3, ![2, 1, 6144]⟩
abbrev S8x6144 : Shape := ⟨2, ![8, 6144]⟩
abbrev S1x2048x768 : Shape := ⟨3, ![1, 2048, 768]⟩
abbrev S1x1x768 : Shape := ⟨3, ![1, 1, 768]⟩
abbrev S8x768 : Shape := ⟨2, ![8, 768]⟩
abbrev S2048x768 : Shape := ⟨2, ![2048, 768]⟩
abbrev S1x768 : Shape := ⟨2, ![1, 768]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2x2048x6144, .f32⟩
  | .hbm, ⟨2, _⟩ => ⟨S2x6144, .f32⟩
  | .hbm, ⟨3, _⟩ => ⟨S2x1x6144, .f32⟩
  | .hbm, ⟨4, _⟩ => ⟨S8x6144, .f32⟩
  | .local _ .vmem, ⟨0, _⟩ => ⟨S8x2048, .f32⟩
  | .local _ .vmem, ⟨1, _⟩ => ⟨S1x2048x768, .f32⟩
  | .local _ .vmem, ⟨2, _⟩ => ⟨S1x2048x768, .f32⟩
  | .local _ .vmem, ⟨3, _⟩ => ⟨S1x1x768, .f32⟩
  | .local _ .vmem, ⟨4, _⟩ => ⟨S1x1x768, .f32⟩
  | .local _ .vmem, ⟨5, _⟩ => ⟨S8x768, .f32⟩
  | .local _ .vmem, ⟨6, _⟩ => ⟨S8x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8x2048 : Shape := ⟨2, ![8, 2048]⟩
abbrev S2x2048x6144 : Shape := ⟨3, ![2, 2048, 6144]⟩
abbrev S2x6144 : Shape := ⟨2, ![2, 6144]⟩
abbrev S_ : Shape := ⟨0, ![]⟩
abbrev S1x2048x6144 : Shape := ⟨3, ![1, 2048, 6144]⟩
abbrev S2048x6144 : Shape := ⟨2, ![2048, 6144]⟩
abbrev S8x6144 : Shape := ⟨2, ![8, 6144]⟩
abbrev S1x6144 : Shape := ⟨2, ![1, 6144]⟩
abbrev S6144 : Shape := ⟨1, ![6144]⟩

abbrev nBuf : Space → Nat
  | .hbm => 20
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x2048x6144, .f32⟩
  | .hbm, ⟨2, _⟩ => ⟨S2x6144, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S1x2048x6144, .f32⟩
  | .hbm, ⟨13, _⟩ => ⟨S2048x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel5.lean ====
abbrev S8x2048 : Shape := ⟨2, ![8, 2048]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S16384x1 : Shape := ⟨2, ![16384, 1]⟩
abbrev S16384x128 : Shape := ⟨2, ![16384, 128]⟩
abbrev S2048x1 : Shape := ⟨2, ![2048, 1]⟩
abbrev S2048x128 : Shape := ⟨2, ![2048, 128]⟩

abbrev nBuf : Space → Nat
  | .hbm => 16
  | .vmem => 7
  | .smem => 0
  | _ => 0

abbrev bufTy : (tb : Table) → Fin (tcTables nBuf tb) → BufTy
  | .hbm, ⟨0, _⟩ => ⟨S8x2048, .i32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S1x32, .f32⟩
  | .hbm, ⟨10, _⟩ => ⟨S4x32, .f32⟩
  | .hbm, ⟨11, _⟩ => ⟨S128, .f32⟩
  | .hbm, ⟨12, _⟩ => ⟨S1x128, .f32⟩
  | .hbm, ⟨13, _⟩ => ⟨S16384x1, .i32⟩
  | .hbm, ⟨14, _⟩ => ⟨S16384x128, .f32⟩
  | .hbm, ⟨15, _⟩ => ⟨S16384x128, .f32⟩
  | .local _ .vmem, ⟨0, _⟩ => ⟨S2048x1, .i32⟩
  | .local _ .vmem, ⟨1, _⟩ => ⟨S2048x1, .i32⟩
  | .local _ .vmem, ⟨2, _⟩ => ⟨S1x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S8x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11_0 : Ref sig .tc := ⟨.hbm, 14, rfl⟩
abbrev main_v11_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S8x2048 : Shape := ⟨2, ![8, 2048]⟩
abbrev S32 : Shape := ⟨1, ![32]⟩
abbrev S_ : Shape := ⟨0, ![]⟩
abbrev S8x2048x1 : Shape := ⟨3, ![8, 2048, 1]⟩
abbrev S1x1x32 : Shape := ⟨3, ![1, 1, 32]⟩
abbrev S8x2048x32 : Shape := ⟨3, ![8, 2048, 32]⟩
abbrev S8x2048x128 : Shape := ⟨3, ![8, 2048, 128]⟩
abbrev S16384x128 : Shape := ⟨2, ![16384, 128]⟩

abbrev nBuf : Space → Nat
  | .hbm => 23
  | .vmem => 0
  | .smem => 0
  | _ => 0

abbrev bufTy : (tb : Table) → Fin (tcTables nBuf tb) → BufTy
  | .hbm, ⟨0, _⟩ => ⟨S8x2048, .i32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S8x2048, .f32⟩
  | .hbm, ⟨10, _⟩ => ⟨S8x2048x1, .f32⟩
  | .hbm, ⟨11, _⟩ => ⟨S1x1x32, .f32⟩
  | .hbm, ⟨12, _⟩ => ⟨S8x2048x32, .f32⟩
  | .hbm, ⟨13, _⟩ => ⟨S8x2048x32, .f32⟩
  | .hbm, ⟨14, _⟩ => ⟨S8x2048x32, .f32⟩
  | .hbm, ⟨15, _⟩ => ⟨S8x2048x32, .f32⟩
  | .hbm, ⟨16, _⟩ => ⟨S8x2048x32, .f32⟩
  | .hbm, ⟨17, _⟩ => ⟨S8x2048x128, .f32⟩
  | .hbm, ⟨18, _⟩ => ⟨S16384x128, .f32⟩
  | .hbm, ⟨19, _⟩ => ⟨S8x2048x32, .f32⟩
  | .hbm, ⟨20, _⟩ => ⟨S8x2048x32, .f32⟩
  | .hbm, ⟨21, _⟩ => ⟨S8x2048x128, .f32⟩
  | .hbm, ⟨22, _⟩ => ⟨S16384x128, .f32⟩
  | _, _ => ⟨S8x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== Kernel6.lean ====
abbrev S2x2048x19984 : Shape := ⟨3, ![2, 2048, 19984]⟩
abbrev S2x19984x2048 : Shape := ⟨3, ![2, 19984, 2048]⟩
abbrev S39968x2048 : Shape := ⟨2, ![39968, 2048]⟩
abbrev S2x2048x19968 : Shape := ⟨3, ![2, 2048, 19968]⟩
abbrev S512x2048 : Shape := ⟨2, ![512, 2048]⟩
abbrev S1x2048x512 : Shape := ⟨3, ![1, 2048, 512]⟩
abbrev S2048x512 : Shape := ⟨2, ![2048, 512]⟩

abbrev nBuf : Space → Nat
  | .hbm => 4
  | .vmem => 4
  | .smem => 0
  | _ => 0

abbrev bufTy : (tb : Table) → Fin (tcTables nBuf tb) → BufTy
  | .hbm, ⟨0, _⟩ => ⟨S2x2048x19984, .f32⟩
  | .hbm, ⟨1, _⟩ => ⟨S2x19984x2048, .f32⟩
  | .hbm, ⟨2, _⟩ => ⟨S39968x2048, .f32⟩
  | .hbm, ⟨3, _⟩ => ⟨S2x2048x19968, .bf16⟩
  | .local _ .vmem, ⟨0, _⟩ => ⟨S512x2048, .f32⟩
  | .local _ .vmem, ⟨1, _⟩ => ⟨S512x2048, .f32⟩
  | .local _ .vmem, ⟨2, _⟩ => ⟨S1x2048x512, .bf16⟩
  | .local _ .vmem, ⟨3, _⟩ => ⟨S1x2048x512, .bf16⟩
  | _, _ => ⟨S2x2048x19984, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 39], ![false, false]⟩

def cc0_transform_0 (i : grid0.Coords) : Fin 2 → Nat :=
  let arg0 : BitVec 32 := BitVec.ofNat 32 (i 0).val
  let arg1 : BitVec 32 := BitVec.ofNat 32 (i 1).val
  let c1249_i32 : BitVec 32 := 1249#32
  let v0 : BitVec 32 := Scalar.muli arg0 c1249_i32
  let c32_i32 : BitVec 32 := 32#32
  let v1 : BitVec 32 := Scalar.muli arg1 c32_i32
  let c0_i32 : BitVec 32 := 0#32
  let v2 : BitVec 32 := Scalar.subi v1 c0_i32
  let c737_i32 : BitVec 32 := 737#32
  let v3 : BitVec 32 := Scalar.addi v2 c737_i32
  let c512_i32 : BitVec 32 := 512#32
  let v4 : BitVec 32 := Scalar.subi v1 c512_i32
  let c0_i32_0 : BitVec 32 := 0#32
  let v5 : BitVec 32 := Scalar.addi v4 c0_i32_0
  let c512_i32_1 : BitVec 32 := 512#32
  let v6 : BitVec 1 := Scalar.cmpi .sge v1 c512_i32_1
  let v7 : BitVec 32 := Scalar.select v6 v5 v3
  let c704_i32 : BitVec 32 := 704#32
  let v8 : BitVec 32 := Scalar.subi v1 c704_i32
  let c193_i32 : BitVec 32 := 193#32
  let v9 : BitVec 32 := Scalar.addi v8 c193_i32
  let c704_i32_2 : BitVec 32 := 704#32
  let v10 : BitVec 1 := Scalar.cmpi .sge v1 c704_i32_2
  let v11 : BitVec 32 := Scalar.select v10 v9 v7
  let c768_i32 : BitVec 32 := 768#32
  let v12 : BitVec 32 := Scalar.subi v1 c768_i32
  let c289_i32 : BitVec 32 := 289#32
  let v13 : BitVec 32 := Scalar.addi v12 c289_i32
  let c768_i32_3 : BitVec 32 := 768#32
  let v14 : BitVec 1 := Scalar.cmpi .sge v1 c768_i32_3
  let v15 : BitVec 32 := Scalar.select v14 v13 v11
  let c1216_i32 : BitVec 32 := 1216#32
  let v16 : BitVec 32 := Scalar.subi v1 c1216_i32
  let c257_i32 : BitVec 32 := 257#32
  let v17 : BitVec 32 := Scalar.addi v16 c257_i32
  let c1216_i32_4 : BitVec 32 := 1216#32
  let v18 : BitVec 1 := Scalar.cmpi .sge v1 c1216_i32_4
  let v19 : BitVec 32 := Scalar.select v18 v17 v15
  let v20 : BitVec 32 := Scalar.addi v0 v19
  let c16_i32 : BitVec 32 := 16#32
  let v21 : BitVec 32 := Scalar.muli v20 c16_i32
  let c0_i32_5 : BitVec 32 := 0#32
  let c0_i32_6 : BitVec 32 := 0#32
  ![v21.toNat, c0_i32_5.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference6Ideal.lean ====
abbrev S2x2048x19984 : Shape := ⟨3, ![2, 2048, 19984]⟩
abbrev S2x2048x1024 : Shape := ⟨3, ![2, 2048, 1024]⟩
abbrev S2x2048x2048 : Shape := ⟨3, ![2, 2048, 2048]⟩
abbrev S2x2048x16 : Shape := ⟨3, ![2, 2048, 16]⟩
abbrev S2x2048x256 : Shape := ⟨3, ![2, 2048, 256]⟩
abbrev S2x2048x8192 : Shape := ⟨3, ![2, 2048, 8192]⟩
abbrev S2x2048x19968 : Shape := ⟨3, ![2, 2048, 19968]⟩

abbrev nBuf : Space → Nat
  | .hbm => 17
  | .vmem => 0
  | .smem => 0
  | _ => 0

abbrev bufTy : (tb : Table) → Fin (tcTables nBuf tb) → BufTy
  | .hbm, ⟨0, _⟩ => ⟨S2x2048x19984, .f32⟩
  | .hbm, ⟨1, _⟩ => ⟨S2x2048x1024, .f32⟩
  | .hbm, ⟨2, _⟩ => ⟨S2x2048x2048, .f32⟩
  | .hbm, ⟨3, _⟩ => ⟨S2x2048x16, .f32⟩
  | .hbm, ⟨4, _⟩ => ⟨S2x2048x1024, .f32⟩
  | .hbm, ⟨5, _⟩ => ⟨S2x2048x256, .f32⟩
  | .hbm, ⟨6, _⟩ => ⟨S2x2048x256, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | .hbm, ⟨14, _⟩ => ⟨S2x2048x8192, .f32⟩
  | .hbm, ⟨15, _⟩ => ⟨S2x2048x19968, .f32⟩
  | .hbm, ⟨16, _⟩ => ⟨S2x2048x19968, .bf16⟩
  | _, _ => ⟨S2x2048x19984, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩

abbrev nD : Nat := 1
abbrev τ : Topo := Topo.v7x

variable {F : FTy → Type} [FloatOps F]
-- ==== Proof.Mix.RefLoop.lean ====
module

public import proofs.«01_k».proof.Proof.Gen.ReferenceIdeal.Run
public import proofs.«01_k».proof.Proof.Gen.ReferenceIdeal.Step

@[expose] public section

noncomputable section

/-! # The reference's scan over time

The reference's loop carries the state `h` and the array of all states, one row written per trip. Its run is the trip
iterated 2048 times; here the trip is read off as `Step.step`, so the results are those of the sequence `st`. -/

namespace Cert.ReferenceIdeal.Loop

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F]

/-- A valuation agrees with a loop state before trip number `k`. -/
def Agrees (V : Valuation τ sig (Elt F)) (s : Step.State F) (k : ℕ) : Prop :=
  (V (Proc.devRef .tc main_v78_3) = s.main_v78_3 ∧ V (Proc.devRef .tc main_v78_4) = s.main_v78_4)
  ∧ (V (Proc.devRef .tc main_v78_0) = s.main_v78_0 ∧ V (Proc.devRef .tc main_v78_1) = s.main_v78_1)
  ∧ V (Proc.devRef .tc main_v78_2) = constantI S_ 32 (BitVec.ofNat 32 k)

variable {V : Valuation τ sig (Elt F)} {s : Step.State F} {k : ℕ}

set_option maxRecDepth 8192 in
/-- The new state of the recurrence a trip leaves. -/
theorem trip_h (h : Agrees V s k) : step_main_v78_3 V = Step.b9 k s := by
  obtain ⟨⟨h3, h4⟩, ⟨h0, h1⟩, h2⟩ := h
  unfold step_main_v78_3 res_main_while0b_v141
  rw [h3, h0, h1, h2]
  rfl

set_option maxRecDepth 8192 in
/-- The array of states a trip leaves. -/
theorem trip_hs (h : Agrees V s k) : step_main_v78_4 V = Step.b13 k s := by
  obtain ⟨⟨h3, h4⟩, ⟨h0, h1⟩, h2⟩ := h
  unfold step_main_v78_4 res_main_while0b_v141
  rw [h3, h0, h1, h2, h4]
  rfl

/-- The counter a trip leaves. -/
theorem trip_count (h : Agrees V s k) : step_main_v78_2 V = constantI S_ 32 (BitVec.ofNat 32 (k + 1)) := by
  obtain ⟨-, -, h2⟩ := h
  unfold step_main_v78_2
  rw [h2]
  funext i
  show BitVec.ofNat 32 k + 1#32 = BitVec.ofNat 32 (k + 1)
  rw [BitVec.ofNat_add]

/-- A trip takes agreement with a state to agreement with the next. -/
theorem agrees_step (h : Agrees V s k) : Agrees (STEP V) (Step.step k s) (k + 1) :=
  ⟨⟨(STEP_main_v78_3 V).trans (trip_h h), (STEP_main_v78_4 V).trans (trip_hs h)⟩,
    ⟨(STEP_main_v78_0 V).trans h.2.1.1, (STEP_main_v78_1 V).trans h.2.1.2⟩,
    (STEP_main_v78_2 V).trans (trip_count h)⟩

variable (m : (ℓ : Loc nD τ sig) → Buf (Elt F) ℓ) (c : Dev nD)

/-- The loop's states: the first from the arguments, each next by one trip. -/
def st : ℕ → Step.State F
  | 0 => Step.init (m ((c.tc : Thread nD τ).loc main_arg0)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
  | k + 1 => Step.step k (st k)

set_option maxRecDepth 65536 in
set_option maxHeartbeats 500000 in
/-- The operations before the loop leave the first state. -/
theorem agrees_entry : Agrees (entryContents preI m c) (st m c 0) 0 := by
  refine ⟨⟨?_, ?_⟩, ⟨?_, ?_⟩, ?_⟩ <;> (simp only [entryContents, afterL_cons, afterL_nil]; after_reads_simp) <;> rfl

/-- Before each trip the loop's valuation agrees with the state of that number. -/
theorem agrees_iter : ∀ k, Agrees (STEP^[k] (entryContents preI m c)) (st m c k) k
  | 0 => agrees_entry m c
  | k + 1 => by
    rw [Function.iterate_succ_apply']
    exact agrees_step (agrees_iter k)

/-- The first result after the loop, of the arguments. -/
theorem result_conv : out_main_v135 (STEP^[2048] (entryContents preI m c))
    = Step.R_main_v135 (st m c 2048) (m ((c.tc : Thread nD τ).loc main_arg0)) (m ((c.tc : Thread nD τ).loc main_arg1)) := by
  unfold out_main_v135 Step.R_main_v135
  rw [iter_main_arg0 m c 2048, iter_main_arg1 m c 2048]
  rfl

/-- The second result after the loop, of the last state and the arguments. -/
theorem result_scan : out_main_v137 (STEP^[2048] (entryContents preI m c))
    = Step.R_main_v137 (st m c 2048) (m ((c.tc : Thread nD τ).loc main_arg0)) := by
  unfold out_main_v137 Step.R_main_v137
  rw [(agrees_iter m c 2048).1.2, iter_main_arg0 m c 2048]
  rfl

end Cert.ReferenceIdeal.Loop

end
-- ==== Proof.Mix.Scratch.lean ====
module

public import proofs.«01_k».proof.Proof.Gen.KernelIdeal.Frame
public import Idealize.ShloMosaic.Lib.WritesUnit
public import Idealize.ShloMosaic.Lib.ValueIdx

@[expose] public section

set_option maxRecDepth 16384

noncomputable section

/-! # What one grid point reads and writes in the scratch buffers

A tile is 256 rows of a 264-row scratch buffer, under 8 rows kept from the tile before. -/

namespace Cert.KernelIdeal.Blocks

open Cert.KernelIdeal Cert.KernelIdeal.Gen Idealize.ShloMosaic Idealize.ShloMosaic.TcCoe Idealize.SL.Sem
open Idealize.ShloMosaic.Tactic Idealize.ShloMosaic.ValueIdx

variable {F : FTy → Type} [FloatOps F]

/-- Rank-2 indices with the same coordinates are equal. -/
theorem ext2 {n m : ℕ} {x y : (⟨2, ![n, m]⟩ : Shape).Idx} (h0 : (x 0).val = (y 0).val) (h1 : (x 1).val = (y 1).val) : x = y := by
  funext a
  match a with
  | ⟨0, _⟩ => exact Fin.ext h0
  | ⟨1, _⟩ => exact Fin.ext h1

/-- Rank-3 indices with the same coordinates are equal. -/
theorem ext3 {n m k : ℕ} {x y : (⟨3, ![n, m, k]⟩ : Shape).Idx} (h0 : (x 0).val = (y 0).val) (h1 : (x 1).val = (y 1).val)
    (h2 : (x 2).val = (y 2).val) : x = y := by
  funext a
  match a with
  | ⟨0, _⟩ => exact Fin.ext h0
  | ⟨1, _⟩ => exact Fin.ext h1
  | ⟨2, _⟩ => exact Fin.ext h2

/-- Eight rows `q` above a tile `p`. -/
def cat (q : Vec F S8x1024 .f32) (p : Vec F S256x1024 .f32) : Vec F S264x1024 .f32 := fun y =>
  if h : (y 0).val < 8 then q (ix2 ⟨(y 0).val, h⟩ (y 1))
  else p (ix2 ⟨(y 0).val - 8, by have := (y 0).isLt; simp only [S264x1024, Shape.size] at this; change (y 0).val < 264 at this; omega⟩ (y 1))

/-- The 256 rows of a scratch buffer from row `o` on. -/
def shift (o : ℕ) (ho : o ≤ 8) (X : Vec F S264x1024 .f32) : Vec F S256x1024 .f32 := fun y =>
  X (ix2 ⟨o + (y 0).val, by have := (y 0).isLt; change (y 0).val < 256 at this; omega⟩ (y 1))

/-- The last 8 rows of a tile. -/
def tail (p : Vec F S256x1024 .f32) : Vec F S8x1024 .f32 := fun y =>
  p (ix2 ⟨248 + (y 0).val, by have := (y 0).isLt; change (y 0).val < 8 at this; omega⟩ (y 1))

/-- The first 8 rows of a scratch buffer. -/
def top (X : Vec F S264x1024 .f32) : Vec F S8x1024 .f32 := fun y =>
  X (ix2 ⟨(y 0).val, by have := (y 0).isLt; change (y 0).val < 8 at this; omega⟩ (y 1))

/-- Row `k` of an array of rows of 1024. -/
def row {n : ℕ} (k : ℕ) (hk : k < n) (w : (⟨2, ![n, 1024]⟩ : Shape).Idx → Elt F .f32) : Vec F S1x1024 .f32 := fun y =>
  w (ix2 (⟨k, hk⟩ : Fin n) (y 1))

/-- Slice `q` of the four 256 × 512 weights. -/
def quarter (q : ℕ) (hq : q < 4) (w : Vec F S4x256x512 .bf16) : Vec F S1x256x512 .bf16 := fun y =>
  w (ix3 (⟨q, hq⟩ : Fin 4) (y 1) (y 2))

/-- Written 8 rows above a written tile, whatever was written before. -/
theorem canon_head (t : Vec F S8x1024 .f32) (p : Vec F S256x1024 .f32) (h1 h2) (L : List (View.Piece (Elt F) S264x1024 .f32)) :
    View.canon ((⟨Rect.unit ![0, 0] ![8, 1024] h1, t⟩ : View.Piece (Elt F) S264x1024 .f32)
      :: ⟨Rect.unit ![8, 0] ![256, 1024] h2, p⟩ :: L) = cat t p := by
  funext y
  have hy := (y 0).isLt
  change (y 0).val < 264 at hy
  unfold cat
  by_cases h : (y 0).val < 8
  · rw [dif_pos h]
    have e : y = (Rect.unit (s := S264x1024) ![0, 0] ![8, 1024] h1).emb (ix2 (⟨(y 0).val, h⟩ : Fin 8) (y 1)) := by
      exact ext2 (by show (y 0).val = 0 + 1 * (y 0).val; omega) (by show (y 1).val = 0 + 1 * (y 1).val; omega)
    conv_lhs => rw [e]
    exact View.canon_cons_emb _ _ _ _
  · rw [dif_neg h, View.canon_cons_of_not_mem]
    · have e : y = (Rect.unit (s := S264x1024) ![8, 0] ![256, 1024] h2).emb (ix2 (⟨(y 0).val - 8, by omega⟩ : Fin 256) (y 1)) := by
        exact ext2 (by show (y 0).val = 8 + 1 * ((y 0).val - 8); omega) (by show (y 1).val = 0 + 1 * (y 1).val; omega)
      conv_lhs => rw [e]
      exact View.canon_cons_emb _ _ _ _
    · rw [Rect.mem_set_unit]
      intro hm
      have := (hm 0).2
      change (y 0).val < 0 + 8 at this
      omega

/-- A tile written under 8 written rows. -/
theorem canon_tile (z : Vec F S8x1024 .f32) (p : Vec F S256x1024 .f32) (h1 h2) (L : List (View.Piece (Elt F) S264x1024 .f32)) :
    View.canon ((⟨Rect.unit ![8, 0] ![256, 1024] h2, p⟩ : View.Piece (Elt F) S264x1024 .f32)
      :: ⟨Rect.unit ![0, 0] ![8, 1024] h1, z⟩ :: L) = cat z p := by
  funext y
  have hy := (y 0).isLt
  change (y 0).val < 264 at hy
  unfold cat
  by_cases h : (y 0).val < 8
  · rw [dif_pos h, View.canon_cons_of_not_mem]
    · have e : y = (Rect.unit (s := S264x1024) ![0, 0] ![8, 1024] h1).emb (ix2 (⟨(y 0).val, h⟩ : Fin 8) (y 1)) := by
        exact ext2 (by show (y 0).val = 0 + 1 * (y 0).val; omega) (by show (y 1).val = 0 + 1 * (y 1).val; omega)
      conv_lhs => rw [e]
      exact View.canon_cons_emb _ _ _ _
    · rw [Rect.mem_set_unit]
      intro hm
      have := (hm 0).1
      change 8 ≤ (y 0).val at this
      omega
  · rw [dif_neg h]
    have e : y = (Rect.unit (s := S264x1024) ![8, 0] ![256, 1024] h2).emb (ix2 (⟨(y 0).val - 8, by omega⟩ : Fin 256) (y 1)) := by
      exact ext2 (by show (y 0).val = 8 + 1 * ((y 0).val - 8); omega) (by show (y 1).val = 0 + 1 * (y 1).val; omega)
    conv_lhs => rw [e]
    exact View.canon_cons_emb _ _ _ _

variable {sig' : RefSig} {κ : Kind} {sp : Space}

/-- A load through a box of unit stride reads the index moved by the box's offsets. -/
theorem unit_idx {n m : ℕ} {a b : ℕ} {o : ℕ} (h) (y : (⟨2, ![a, b]⟩ : Shape).Idx) (hn : o + (y 0).val < n) (hm : b = m) :
    (Rect.unit (s := (⟨2, ![n, m]⟩ : Shape)) ![o, 0] ![a, b] h).idx y
      = ix2 (⟨o + (y 0).val, hn⟩ : Fin n) (⟨(y 1).val, hm ▸ (y 1).isLt⟩ : Fin m) := by
  subst hm
  exact ext2 (by show o + 1 * (y 0).val = o + (y 0).val; omega) (by show 0 + 1 * (y 1).val = (y 1).val; omega)

/-- The rows from `o` on of a tile written under 8 written rows. -/
theorem load_shift_canon (v : View sig' κ sp S264x1024 .f32) (z : Vec F S8x1024 .f32) (p : Vec F S256x1024 .f32) (h1 h2 : _)
    (L : List (View.Piece (Elt F) S264x1024 .f32)) (o : ℕ) (ho : o ≤ 8) (h3) :
    v.readCov ((⟨Rect.unit ![8, 0] ![256, 1024] h2, p⟩ : View.Piece (Elt F) S264x1024 .f32)
      :: ⟨Rect.unit ![0, 0] ![8, 1024] h1, z⟩ :: L) (Rect.unit (s := S264x1024) ![o, 0] ![256, 1024] h3).toLoadRect = shift o ho (cat z p) := by
  rw [View.readCov_eq_canon', canon_tile]
  funext y
  unfold shift
  have hy := (y 0).isLt
  change (y 0).val < 256 at hy
  exact congrArg (cat z p) ((unit_idx (n := 264) (m := 1024) (a := 256) (b := 1024) h3 y (by omega) rfl).trans rfl)

/-- The rows from `o` on of a buffer whose last 256 rows were written. -/
theorem load_shift_over (v : View sig' κ sp S264x1024 .f32) (f : v.ty.Contents (Elt F)) (p : Vec F S256x1024 .f32) (h2 : _)
    (o : ℕ) (ho : o ≤ 8) (h3) :
    v.readAt (Elt F) (Rect.unit (s := S264x1024) ![o, 0] ![256, 1024] h3).toLoadRect
      (v.writes (Elt F) f [(⟨Rect.unit ![8, 0] ![256, 1024] h2, p⟩ : View.Piece (Elt F) S264x1024 .f32)])
      = shift o ho (cat (top (v.read (Elt F) f)) p) := by
  funext y
  have hy := (y 0).isLt
  change (y 0).val < 256 at hy
  rw [View.readAt_apply]
  unfold shift cat top
  have e := unit_idx (n := 264) (m := 1024) (a := 256) (b := 1024) h3 y (by omega) rfl
  refine (congrArg _ e).trans ?_
  dsimp only
  by_cases h : o + (y 0).val < 8
  · rw [View.read_writes_cons_rows_of_not_mem v f (o := 8) (W := 256) h2 p [] _ rfl rfl (Or.inl h)]
    rw [dif_pos h]
    rfl
  · rw [View.read_writes_cons_rows_of_mem v f (o := 8) h2 p [] _ (ix2 (⟨o + (y 0).val - 8, by omega⟩ : Fin 256) (y 1)) rfl
      (by simp only [ix2]; change o + (y 0).val = 8 + (o + (y 0).val - 8); omega) rfl]
    rw [dif_neg h]

/-- The last 8 rows of a written tile. -/
theorem load_tail (v : View sig' κ sp S264x1024 .f32) (p : Vec F S256x1024 .f32) (h2 : _)
    (L : List (View.Piece (Elt F) S264x1024 .f32)) (h3) :
    v.readCov ((⟨Rect.unit ![8, 0] ![256, 1024] h2, p⟩ : View.Piece (Elt F) S264x1024 .f32) :: L)
      (Rect.unit (s := S264x1024) ![256, 0] ![8, 1024] h3).toLoadRect = tail p := by
  rw [View.readCov_eq_canon']
  funext y
  have hy := (y 0).isLt
  change (y 0).val < 8 at hy
  have e := unit_idx (n := 264) (m := 1024) (a := 8) (b := 1024) h3 y (by omega) rfl
  have e2 : (Rect.unit (s := S264x1024) ![256, 0] ![8, 1024] h3).idx y
      = (Rect.unit (s := S264x1024) ![8, 0] ![256, 1024] h2).emb (ix2 (⟨248 + (y 0).val, by omega⟩ : Fin 256) (y 1)) := by
    refine e.trans ?_
    exact ext2 (by show 256 + (y 0).val = 8 + 1 * (248 + (y 0).val); omega) (by show (y 1).val = 0 + 1 * (y 1).val; omega)
  show View.canon _ ((Rect.unit (s := S264x1024) ![256, 0] ![8, 1024] h3).idx y) = _
  rw [e2]
  exact View.canon_cons_emb _ _ _ _

/-- A load of one row. -/
theorem load_row {n k : ℕ} (hk : k < n) (x : (⟨2, ![n, 1024]⟩ : Shape).Idx → Elt F .f32) (h) :
    View.ld x (Rect.unit (s := (⟨2, ![n, 1024]⟩ : Shape)) ![k, 0] ![1, 1024] h) = row k hk x := by
  funext y
  have hy := (y 0).isLt
  change (y 0).val < 1 at hy
  refine congrArg x ((unit_idx (n := n) (m := 1024) (a := 1) (b := 1024) h y (by omega) rfl).trans ?_)
  exact ext2 (by show k + (y 0).val = k; omega) rfl

/-- A load of one of the four weights. -/
theorem load_quarter {q : ℕ} (hq : q < 4) (x : Vec F S4x256x512 .bf16) (h) :
    View.ld x (Rect.unit (s := S4x256x512) ![q, 0, 0] ![1, 256, 512] h) = quarter q hq x := by
  funext y
  have hy := (y 0).isLt
  change (y 0).val < 1 at hy
  refine congrArg x ?_
  exact ext3 (by show q + 1 * (y 0).val = q; omega) (by show 0 + 1 * (y 1).val = (y 1).val; omega)
    (by show 0 + 1 * (y 2).val = (y 2).val; omega)

end Cert.KernelIdeal.Blocks

end
-- ==== Proof.Mix.Tile.lean ====
module

public import proofs.«01_k».proof.Proof.Mix.Scratch
public import Idealize.ShloMosaic.Lib.Pipeline.Value

@[expose] public section

set_option maxRecDepth 16384

noncomputable section

/-! # The values of one grid point -/

namespace Cert.KernelIdeal.Blocks

open Cert.KernelIdeal Cert.KernelIdeal.Gen Idealize.ShloMosaic Idealize.ShloMosaic.TcCoe Idealize.SL.Sem
open Idealize.ShloMosaic.Tactic Idealize.ShloMosaic.ValueIdx

variable {F : FTy → Type} [FloatOps F]

/-- Groups of eight rows start inside the array. -/
theorem slice_ok (g : ℕ) (hg : g < 32) : S32x8x1024.Slices ![g, 0, 0] S1x8x1024 := by
  refine ⟨rfl, fun a => ?_⟩
  match a with
  | ⟨0, _⟩ => show g + 1 ≤ 32; omega
  | ⟨1, _⟩ => show 0 + 8 ≤ 8; omega
  | ⟨2, _⟩ => show 0 + 1024 ≤ 1024; omega

/-- Group `g` of eight rows: the entry-free states plus the products of the coefficients times the entering state. -/
def hgOf (u a : FVec F S32x8x1024 .f32) (g : ℕ) (hg : g < 32) (c : FVec F S1x1024 .f32) : FVec F S8x1024 .f32 :=
  addf (shapeCast S8x1024 (extractStridedSlice S1x8x1024 ![g, 0, 0] u (slice_ok g hg)) shapeCasts_S1x8x1024_S8x1024)
    (mulf (shapeCast S8x1024 (extractStridedSlice S1x8x1024 ![g, 0, 0] a (slice_ok g hg)) shapeCasts_S1x8x1024_S8x1024)
      (broadcastTo S8x1024 c broadcasts_S1x1024_S8x1024))

/-- The last of eight rows. -/
def lastRow (h : FVec F S8x1024 .f32) : FVec F S1x1024 .f32 :=
  extractStridedSlice S1x1024 ![7, 0] h slices_S8x1024_o7_0_S1x1024

/-- The states of group `g`, each group entered with the last row of the one before. -/
def hAt (u a : FVec F S32x8x1024 .f32) (c : FVec F S1x1024 .f32) : (g : ℕ) → g < 32 → FVec F S8x1024 .f32
  | 0, h => hgOf u a 0 h c
  | g + 1, h => hgOf u a (g + 1) h (lastRow (hAt u a c g (Nat.lt_of_succ_lt h)))

/-- The 32 groups one under another. -/
def groups (p : (g : ℕ) → g < 32 → FVec F S8x1024 .f32) : FVec F S256x1024 .f32 :=
  concatenate S256x1024 0 (List.ofFn fun g : Fin 32 => (⟨S8x1024, p g.val g.isLt⟩ : Σ s : Shape, FVec F s .f32))
    concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S256x1024_d0

/-- A load of a whole array of rank 2. -/
theorem ld_zero2 {n m : ℕ} {e : EltTy} (h) (x : (⟨2, ![n, m]⟩ : Shape).Idx → Elt F e) :
    View.ld x (Rect.unit (s := (⟨2, ![n, m]⟩ : Shape)) ![0, 0] ![n, m] h) = x :=
  View.ld_unit_zero (funext fun a => by match a with | ⟨0, _⟩ => rfl | ⟨1, _⟩ => rfl) h x

/-- A store over a whole array of rank 2. -/
theorem canon_zero2 {n m : ℕ} {e : EltTy} (h) (w : (⟨2, ![n, m]⟩ : Shape).Idx → Elt F e)
    (L : List (View.Piece (Elt F) (⟨2, ![n, m]⟩ : Shape) e)) :
    View.canon ((⟨Rect.unit (s := (⟨2, ![n, m]⟩ : Shape)) ![0, 0] ![n, m] h, w⟩ : View.Piece (Elt F) _ e) :: L) = w :=
  View.canon_cons_unit_zero (funext fun a => by match a with | ⟨0, _⟩ => rfl | ⟨1, _⟩ => rfl) h w L

/-- The first of eight written rows. -/
theorem load_row_cov {sig' : RefSig} {κ : Kind} {sp : Space} (v : View sig' κ sp S8x1024 .f32) (z : Vec F S8x1024 .f32) (h1 h2)
    (L : List (View.Piece (Elt F) S8x1024 .f32)) :
    v.readCov ((⟨Rect.unit (s := S8x1024) ![0, 0] ![8, 1024] h1, z⟩ : View.Piece (Elt F) S8x1024 .f32) :: L)
      (Rect.unit (s := S8x1024) ![0, 0] ![1, 1024] h2).toLoadRect = row 0 (by decide) z := by
  rw [View.readCov_eq_canon', canon_zero2]
  exact load_row (n := 8) (by decide) z h2

/-- The rows kept in the first buffer are stored as they are. -/
theorem keep_row (v : Vec F S8x1024 .f32) : k0_pay8 v = v := shapeCast_self v _

/-- The rows kept in the second buffer are stored as they are. -/
theorem keep_row' (v : Vec F S8x1024 .f32) : k0_pay13 v = v := shapeCast_self v _

/-- The state is stored as it is. -/
theorem keep_state (v : Vec F S8x1024 .f32) : k0_pay1 v = v := shapeCast_self v _

/-- The convolution of three taps over a tile `p` under the eight rows `q`. -/
def conv3 (q : FVec F S8x1024 .f32) (p : FVec F S256x1024 .f32) (w : Vec F S3x1024 .f32) : FVec F S256x1024 .f32 :=
  k0_pay7 (row 2 (by decide) w) p (row 0 (by decide) w) (shift 6 (by decide) (cat q p)) (row 1 (by decide) w)
    (shift 7 (by decide) (cat q p))

/-- The first gated output of a tile. -/
def outC (q : FVec F S8x1024 .f32) (x0 x1 x2 x3 : Vec F S256x1024 .bf16) (w : Vec F S3x1024 .f32) : Vec F S256x1024 .bf16 :=
  k0_pay9 (conv3 q (k0_pay6 x1 x2) w) x0 x3

/-- The first three summands of the convolution of four taps, and its bias. -/
def conv4a (q : FVec F S8x1024 .f32) (p : FVec F S256x1024 .f32) (w : Vec F S4x1024 .f32) (b : Vec F S1x1024 .f32) :
    FVec F S256x1024 .f32 :=
  k0_pay11 b (row 3 (by decide) w) p (row 0 (by decide) w) (shift 5 (by decide) (cat q p)) (row 1 (by decide) w)
    (shift 6 (by decide) (cat q p))

/-- The convolution of four taps: the input of the gates and of the recurrence. -/
def xsV (q : FVec F S8x1024 .f32) (p : FVec F S256x1024 .f32) (w : Vec F S4x1024 .f32) (b : Vec F S1x1024 .f32) :
    FVec F S256x1024 .f32 :=
  k0_pay12 (conv4a q p w b) (row 2 (by decide) w) (shift 7 (by decide) (cat q p))

/-- The products with the left halves of the four weights. -/
def preA (q : FVec F S8x1024 .f32) (p : FVec F S256x1024 .f32) (w : Vec F S4x1024 .f32) (b : Vec F S1x1024 .f32)
    (wbd : Vec F S4x256x512 .bf16) : FVec F S256x1024 .f32 :=
  k0_pay19 (conv4a q p w b) (row 2 (by decide) w) (shift 7 (by decide) (cat q p)) (quarter 0 (by decide) wbd)
    (quarter 1 (by decide) wbd) (quarter 2 (by decide) wbd) (quarter 3 (by decide) wbd)

/-- The products with the right halves of the four weights. -/
def preX (q : FVec F S8x1024 .f32) (p : FVec F S256x1024 .f32) (w : Vec F S4x1024 .f32) (b : Vec F S1x1024 .f32)
    (wbd : Vec F S4x256x512 .bf16) : FVec F S256x1024 .f32 :=
  k0_pay20 (conv4a q p w b) (row 2 (by decide) w) (shift 7 (by decide) (cat q p)) (quarter 0 (by decide) wbd)
    (quarter 1 (by decide) wbd) (quarter 2 (by decide) wbd) (quarter 3 (by decide) wbd)

/-- The coefficients accumulated over 1, …, 8 rows of each group. -/
def a3V (vA : FVec F S256x1024 .f32) (ba lam : Vec F S1x1024 .f32) : FVec F S32x8x1024 .f32 :=
  k0_pay33 (k0_pay23 vA ba lam) (iota .tc S32x8x1024 32 [1] iota_S32x8x1024_d1_w32) (k0_pay26 vA ba lam)

/-- The states of each group when it is entered with zero. -/
def u3V (xs vA vX : FVec F S256x1024 .f32) (ba bx lam : Vec F S1x1024 .f32) : FVec F S32x8x1024 .f32 :=
  k0_pay32 (k0_pay23 vA ba lam) (k0_pay24 xs vA vX ba bx lam) (iota .tc S32x8x1024 32 [1] iota_S32x8x1024_d1_w32)
    k0_pay25 (k0_pay26 vA ba lam) (k0_pay27 xs vA vX ba bx lam)

/-- The states of the groups of a tile `p` under the rows `q`, from the entering state `c`. -/
def hV (q : FVec F S8x1024 .f32) (p : FVec F S256x1024 .f32) (w : Vec F S4x1024 .f32) (b : Vec F S1x1024 .f32)
    (wbd : Vec F S4x256x512 .bf16) (ba bx lam : Vec F S1x1024 .f32) (c : FVec F S1x1024 .f32) :
    (g : ℕ) → g < 32 → FVec F S8x1024 .f32 :=
  hAt (u3V (xsV q p w b) (preA q p w b wbd) (preX q p w b wbd) ba bx lam) (a3V (preA q p w b wbd) ba lam) c

/-- The second gated output of a tile. -/
def outD (q : FVec F S8x1024 .f32) (p : FVec F S256x1024 .f32) (w : Vec F S4x1024 .f32) (b : Vec F S1x1024 .f32)
    (wbd : Vec F S4x256x512 .bf16) (ba bx lam : Vec F S1x1024 .f32) (c : FVec F S1x1024 .f32) (x5 : Vec F S256x1024 .bf16) :
    Vec F S256x1024 .bf16 :=
  k0_pay2 (groups (hV q p w b wbd ba bx lam c)) x5

/-- The state a tile leaves, on eight equal rows. -/
def outH (q : FVec F S8x1024 .f32) (p : FVec F S256x1024 .f32) (w : Vec F S4x1024 .f32) (b : Vec F S1x1024 .f32)
    (wbd : Vec F S4x256x512 .bf16) (ba bx lam : Vec F S1x1024 .f32) (c : FVec F S1x1024 .f32) : FVec F S8x1024 .f32 :=
  broadcastTo S8x1024 (shapeCast S1x1024 (lastRow (hV q p w b wbd ba bx lam c 31 (by decide))) shapeCasts_S1x1024_S1x1024)
    broadcasts_S1x1024_S8x1024

end Cert.KernelIdeal.Blocks

end
-- ==== Proof.Mix.Chain.lean ====
module

public import proofs.«01_k».proof.Proof.Mix.Tile

@[expose] public section

set_option maxRecDepth 16384

noncomputable section

/-! # The 32 groups of a tile, one entered from the other -/

namespace Cert.KernelIdeal.Blocks

open Cert.KernelIdeal Cert.KernelIdeal.Gen Idealize.ShloMosaic Idealize.ShloMosaic.TcCoe Idealize.SL.Sem
open Idealize.ShloMosaic.Tactic Idealize.ShloMosaic.ValueIdx

variable {F : FTy → Type} [FloatOps F]

/-- One group further. -/
theorem next {u a : FVec F S32x8x1024 .f32} {c : FVec F S1x1024 .f32} {g : ℕ} (hg : g + 1 < 32) {p r : FVec F S8x1024 .f32}
    (e : p = hAt u a c g (Nat.lt_of_succ_lt hg)) (h : r = hgOf u a (g + 1) hg (lastRow p)) : r = hAt u a c (g + 1) hg := by
  rw [h, e]; rfl

/-- The groups as a list of 32. -/
theorem list32 (p : (g : ℕ) → g < 32 → FVec F S8x1024 .f32) :
    (List.ofFn fun g : Fin 32 => (⟨S8x1024, p g.val g.isLt⟩ : Σ s : Shape, FVec F s .f32))
      = [⟨S8x1024, p 0 (by decide)⟩, ⟨S8x1024, p 1 (by decide)⟩, ⟨S8x1024, p 2 (by decide)⟩, ⟨S8x1024, p 3 (by decide)⟩, ⟨S8x1024, p 4 (by decide)⟩, ⟨S8x1024, p 5 (by decide)⟩, ⟨S8x1024, p 6 (by decide)⟩, ⟨S8x1024, p 7 (by decide)⟩, ⟨S8x1024, p 8 (by decide)⟩, ⟨S8x1024, p 9 (by decide)⟩, ⟨S8x1024, p 10 (by decide)⟩, ⟨S8x1024, p 11 (by decide)⟩, ⟨S8x1024, p 12 (by decide)⟩, ⟨S8x1024, p 13 (by decide)⟩, ⟨S8x1024, p 14 (by decide)⟩, ⟨S8x1024, p 15 (by decide)⟩, ⟨S8x1024, p 16 (by decide)⟩, ⟨S8x1024, p 17 (by decide)⟩, ⟨S8x1024, p 18 (by decide)⟩, ⟨S8x1024, p 19 (by decide)⟩, ⟨S8x1024, p 20 (by decide)⟩, ⟨S8x1024, p 21 (by decide)⟩, ⟨S8x1024, p 22 (by decide)⟩, ⟨S8x1024, p 23 (by decide)⟩, ⟨S8x1024, p 24 (by decide)⟩, ⟨S8x1024, p 25 (by decide)⟩, ⟨S8x1024, p 26 (by decide)⟩, ⟨S8x1024, p 27 (by decide)⟩, ⟨S8x1024, p 28 (by decide)⟩, ⟨S8x1024, p 29 (by decide)⟩, ⟨S8x1024, p 30 (by decide)⟩, ⟨S8x1024, p 31 (by decide)⟩] := by
  simp only [List.ofFn_succ, List.ofFn_zero]
  rfl

/-- Joins of equal lists are equal. -/
theorem concat_congr {L L' : List (Σ s : Shape, FVec F s .f32)} (e : L = L')
    (h : Shape.Concatenates (L.map (·.1)) S256x1024 0) (h' : Shape.Concatenates (L'.map (·.1)) S256x1024 0) :
    concatenate S256x1024 0 L h = concatenate S256x1024 0 L' h' := by
  subst e; rfl

/-- Equal parts give equal tiles. -/
theorem tile_congr {u u' a a' : FVec F S32x8x1024 .f32} {c c' : FVec F S1x1024 .f32} {x x' : Vec F S256x1024 .bf16} (hu : u = u')
    (ha : a = a') (hc : c = c') (hx : x = x') : k0_pay2 (groups (hAt u a c)) x = k0_pay2 (groups (hAt u' a' c')) x' := by
  subst hu ha hc hx; rfl

section
variable (v135 v136 v142 v143 : FVec F S32x8x1024 .f32) (v137 : IVec S32x8x1024 32) (v139 : IVec S32x8x1024 1)
    (v171 : FVec F S1x1024 .f32) (v169 v170 : FVec F S32x8x1024 .f32) (v187 : FVec F S1x1024 .f32) (v189 : FVec F S8x1024 .f32)
    (v190 : FVec F S1x8x1024 .f32) (v250 : FVec F S8x1024 .f32) (v307 : FVec F S1x1024 .f32) (v309 : FVec F S8x1024 .f32)
    (v310 : FVec F S1x8x1024 .f32) (v370 : FVec F S8x1024 .f32)
    (h169 : v169 = k0_pay32 v135 v136 v137 v139 v142 v143) (h170 : v170 = k0_pay33 v135 v137 v142)
    (h187 : v187 = k0_pay36 v135 v136 v137 v139 v142 v143 v171) (h189 : v189 = k0_pay37 v135 v136 v137 v139 v142 v143)
    (h190 : v190 = k0_pay38 v135 v137 v142) (h250 : v250 = k0_pay46 v169 v170 v187 v189 v190)
    (h307 : v307 = k0_pay54 v169 v170 v250) (h309 : v309 = k0_pay55 v169) (h310 : v310 = k0_pay56 v170)
    (h370 : v370 = k0_pay64 v169 v170 v307 v309 v310)
include h169 h170 h187 h189 h190 h250 h307 h309 h310 h370

/-- Group 0. -/
theorem grp0 : k0_pay34 v135 v136 v137 v139 v142 v143 v171 = hAt v169 v170 v171 0 (by decide) := by
  subst h169 h170; rfl

/-- Group 1. -/
theorem grp1 : k0_pay35 v135 v136 v137 v139 v142 v143 v171 = hAt v169 v170 v171 1 (by decide) := by
  refine next (by decide) (grp0 v135 v136 v142 v143 v137 v139 v171 v169 v170 v187 v189 v190 v250 v307 v309 v310 v370 h169 h170 h187 h189 h190 h250 h307 h309 h310 h370) ?_
  subst h169 h170; rfl

/-- Group 2. -/
theorem grp2 : k0_pay39 v187 v189 v190 = hAt v169 v170 v171 2 (by decide) := by
  refine next (by decide) (grp1 v135 v136 v142 v143 v137 v139 v171 v169 v170 v187 v189 v190 v250 v307 v309 v310 v370 h169 h170 h187 h189 h190 h250 h307 h309 h310 h370) ?_
  subst h187 h189 h190 h169 h170; rfl

/-- Group 3. -/
theorem grp3 : k0_pay40 v169 v170 v187 v189 v190 = hAt v169 v170 v171 3 (by decide) := by
  refine next (by decide) (grp2 v135 v136 v142 v143 v137 v139 v171 v169 v170 v187 v189 v190 v250 v307 v309 v310 v370 h169 h170 h187 h189 h190 h250 h307 h309 h310 h370) ?_
  rfl

/-- Group 4. -/
theorem grp4 : k0_pay41 v169 v170 v187 v189 v190 = hAt v169 v170 v171 4 (by decide) := by
  refine next (by decide) (grp3 v135 v136 v142 v143 v137 v139 v171 v169 v170 v187 v189 v190 v250 v307 v309 v310 v370 h169 h170 h187 h189 h190 h250 h307 h309 h310 h370) ?_
  rfl

/-- Group 5. -/
theorem grp5 : k0_pay42 v169 v170 v187 v189 v190 = hAt v169 v170 v171 5 (by decide) := by
  refine next (by decide) (grp4 v135 v136 v142 v143 v137 v139 v171 v169 v170 v187 v189 v190 v250 v307 v309 v310 v370 h169 h170 h187 h189 h190 h250 h307 h309 h310 h370) ?_
  rfl

/-- Group 6. -/
theorem grp6 : k0_pay43 v169 v170 v187 v189 v190 = hAt v169 v170 v171 6 (by decide) := by
  refine next (by decide) (grp5 v135 v136 v142 v143 v137 v139 v171 v169 v170 v187 v189 v190 v250 v307 v309 v310 v370 h169 h170 h187 h189 h190 h250 h307 h309 h310 h370) ?_
  rfl

/-- Group 7. -/
theorem grp7 : k0_pay44 v169 v170 v187 v189 v190 = hAt v169 v170 v171 7 (by decide) := by
  refine next (by decide) (grp6 v135 v136 v142 v143 v137 v139 v171 v169 v170 v187 v189 v190 v250 v307 v309 v310 v370 h169 h170 h187 h189 h190 h250 h307 h309 h310 h370) ?_
  rfl

/-- Group 8. -/
theorem grp8 : k0_pay45 v169 v170 v187 v189 v190 = hAt v169 v170 v171 8 (by decide) := by
  refine next (by decide) (grp7 v135 v136 v142 v143 v137 v139 v171 v169 v170 v187 v189 v190 v250 v307 v309 v310 v370 h169 h170 h187 h189 h190 h250 h307 h309 h310 h370) ?_
  rfl

/-- Group 9. -/
theorem grp9 : k0_pay46 v169 v170 v187 v189 v190 = hAt v169 v170 v171 9 (by decide) := by
  refine next (by decide) (grp8 v135 v136 v142 v143 v137 v139 v171 v169 v170 v187 v189 v190 v250 v307 v309 v310 v370 h169 h170 h187 h189 h190 h250 h307 h309 h310 h370) ?_
  rfl

/-- Group 10. -/
theorem grp10 : k0_pay47 v169 v170 v250 = hAt v169 v170 v171 10 (by decide) := by
  refine next (by decide) (grp9 v135 v136 v142 v143 v137 v139 v171 v169 v170 v187 v189 v190 v250 v307 v309 v310 v370 h169 h170 h187 h189 h190 h250 h307 h309 h310 h370) ?_
  subst h250; rfl

/-- Group 11. -/
theorem grp11 : k0_pay48 v169 v170 v250 = hAt v169 v170 v171 11 (by decide) := by
  refine next (by decide) (grp10 v135 v136 v142 v143 v137 v139 v171 v169 v170 v187 v189 v190 v250 v307 v309 v310 v370 h169 h170 h187 h189 h190 h250 h307 h309 h310 h370) ?_
  rfl

/-- Group 12. -/
theorem grp12 : k0_pay49 v169 v170 v250 = hAt v169 v170 v171 12 (by decide) := by
  refine next (by decide) (grp11 v135 v136 v142 v143 v137 v139 v171 v169 v170 v187 v189 v190 v250 v307 v309 v310 v370 h169 h170 h187 h189 h190 h250 h307 h309 h310 h370) ?_
  rfl

/-- Group 13. -/
theorem grp13 : k0_pay50 v169 v170 v250 = hAt v169 v170 v171 13 (by decide) := by
  refine next (by decide) (grp12 v135 v136 v142 v143 v137 v139 v171 v169 v170 v187 v189 v190 v250 v307 v309 v310 v370 h169 h170 h187 h189 h190 h250 h307 h309 h310 h370) ?_
  rfl

/-- Group 14. -/
theorem grp14 : k0_pay51 v169 v170 v250 = hAt v169 v170 v171 14 (by decide) := by
  refine next (by decide) (grp13 v135 v136 v142 v143 v137 v139 v171 v169 v170 v187 v189 v190 v250 v307 v309 v310 v370 h169 h170 h187 h189 h190 h250 h307 h309 h310 h370) ?_
  rfl

/-- Group 15. -/
theorem grp15 : k0_pay52 v169 v170 v250 = hAt v169 v170 v171 15 (by decide) := by
  refine next (by decide) (grp14 v135 v136 v142 v143 v137 v139 v171 v169 v170 v187 v189 v190 v250 v307 v309 v310 v370 h169 h170 h187 h189 h190 h250 h307 h309 h310 h370) ?_
  rfl

/-- Group 16. -/
theorem grp16 : k0_pay53 v169 v170 v250 = hAt v169 v170 v171 16 (by decide) := by
  refine next (by decide) (grp15 v135 v136 v142 v143 v137 v139 v171 v169 v170 v187 v189 v190 v250 v307 v309 v310 v370 h169 h170 h187 h189 h190 h250 h307 h309 h310 h370) ?_
  rfl

/-- Group 17. -/
theorem grp17 : k0_pay57 v307 v309 v310 = hAt v169 v170 v171 17 (by decide) := by
  refine next (by decide) (grp16 v135 v136 v142 v143 v137 v139 v171 v169 v170 v187 v189 v190 v250 v307 v309 v310 v370 h169 h170 h187 h189 h190 h250 h307 h309 h310 h370) ?_
  subst h307 h309 h310; rfl

/-- Group 18. -/
theorem grp18 : k0_pay58 v169 v170 v307 v309 v310 = hAt v169 v170 v171 18 (by decide) := by
  refine next (by decide) (grp17 v135 v136 v142 v143 v137 v139 v171 v169 v170 v187 v189 v190 v250 v307 v309 v310 v370 h169 h170 h187 h189 h190 h250 h307 h309 h310 h370) ?_
  rfl

/-- Group 19. -/
theorem grp19 : k0_pay59 v169 v170 v307 v309 v310 = hAt v169 v170 v171 19 (by decide) := by
  refine next (by decide) (grp18 v135 v136 v142 v143 v137 v139 v171 v169 v170 v187 v189 v190 v250 v307 v309 v310 v370 h169 h170 h187 h189 h190 h250 h307 h309 h310 h370) ?_
  rfl

/-- Group 20. -/
theorem grp20 : k0_pay60 v169 v170 v307 v309 v310 = hAt v169 v170 v171 20 (by decide) := by
  refine next (by decide) (grp19 v135 v136 v142 v143 v137 v139 v171 v169 v170 v187 v189 v190 v250 v307 v309 v310 v370 h169 h170 h187 h189 h190 h250 h307 h309 h310 h370) ?_
  rfl

/-- Group 21. -/
theorem grp21 : k0_pay61 v169 v170 v307 v309 v310 = hAt v169 v170 v171 21 (by decide) := by
  refine next (by decide) (grp20 v135 v136 v142 v143 v137 v139 v171 v169 v170 v187 v189 v190 v250 v307 v309 v310 v370 h169 h170 h187 h189 h190 h250 h307 h309 h310 h370) ?_
  rfl

/-- Group 22. -/
theorem grp22 : k0_pay62 v169 v170 v307 v309 v310 = hAt v169 v170 v171 22 (by decide) := by
  refine next (by decide) (grp21 v135 v136 v142 v143 v137 v139 v171 v169 v170 v187 v189 v190 v250 v307 v309 v310 v370 h169 h170 h187 h189 h190 h250 h307 h309 h310 h370) ?_
  rfl

/-- Group 23. -/
theorem grp23 : k0_pay63 v169 v170 v307 v309 v310 = hAt v169 v170 v171 23 (by decide) := by
  refine next (by decide) (grp22 v135 v136 v142 v143 v137 v139 v171 v169 v170 v187 v189 v190 v250 v307 v309 v310 v370 h169 h170 h187 h189 h190 h250 h307 h309 h310 h370) ?_
  rfl

/-- Group 24. -/
theorem grp24 : k0_pay64 v169 v170 v307 v309 v310 = hAt v169 v170 v171 24 (by decide) := by
  refine next (by decide) (grp23 v135 v136 v142 v143 v137 v139 v171 v169 v170 v187 v189 v190 v250 v307 v309 v310 v370 h169 h170 h187 h189 h190 h250 h307 h309 h310 h370) ?_
  rfl

/-- Group 25. -/
theorem grp25 : k0_pay65 v169 v170 v370 = hAt v169 v170 v171 25 (by decide) := by
  refine next (by decide) (grp24 v135 v136 v142 v143 v137 v139 v171 v169 v170 v187 v189 v190 v250 v307 v309 v310 v370 h169 h170 h187 h189 h190 h250 h307 h309 h310 h370) ?_
  subst h370; rfl

/-- Group 26. -/
theorem grp26 : k0_pay66 v169 v170 v370 = hAt v169 v170 v171 26 (by decide) := by
  refine next (by decide) (grp25 v135 v136 v142 v143 v137 v139 v171 v169 v170 v187 v189 v190 v250 v307 v309 v310 v370 h169 h170 h187 h189 h190 h250 h307 h309 h310 h370) ?_
  rfl

/-- Group 27. -/
theorem grp27 : k0_pay67 v169 v170 v370 = hAt v169 v170 v171 27 (by decide) := by
  refine next (by decide) (grp26 v135 v136 v142 v143 v137 v139 v171 v169 v170 v187 v189 v190 v250 v307 v309 v310 v370 h169 h170 h187 h189 h190 h250 h307 h309 h310 h370) ?_
  rfl

/-- Group 28. -/
theorem grp28 : k0_pay68 v169 v170 v370 = hAt v169 v170 v171 28 (by decide) := by
  refine next (by decide) (grp27 v135 v136 v142 v143 v137 v139 v171 v169 v170 v187 v189 v190 v250 v307 v309 v310 v370 h169 h170 h187 h189 h190 h250 h307 h309 h310 h370) ?_
  rfl

/-- Group 29. -/
theorem grp29 : k0_pay69 v169 v170 v370 = hAt v169 v170 v171 29 (by decide) := by
  refine next (by decide) (grp28 v135 v136 v142 v143 v137 v139 v171 v169 v170 v187 v189 v190 v250 v307 v309 v310 v370 h169 h170 h187 h189 h190 h250 h307 h309 h310 h370) ?_
  rfl

/-- Group 30. -/
theorem grp30 : k0_pay70 v169 v170 v370 = hAt v169 v170 v171 30 (by decide) := by
  refine next (by decide) (grp29 v135 v136 v142 v143 v137 v139 v171 v169 v170 v187 v189 v190 v250 v307 v309 v310 v370 h169 h170 h187 h189 h190 h250 h307 h309 h310 h370) ?_
  rfl

/-- Group 31. -/
theorem grp31 : k0_pay71 v169 v170 v370 = hAt v169 v170 v171 31 (by decide) := by
  refine next (by decide) (grp30 v135 v136 v142 v143 v137 v139 v171 v169 v170 v187 v189 v190 v250 v307 v309 v310 v370 h169 h170 h187 h189 h190 h250 h307 h309 h310 h370) ?_
  rfl

/-- The tile of states is the 32 groups. -/
theorem chain : concatenate S256x1024 0 [⟨S8x1024, k0_pay34 v135 v136 v137 v139 v142 v143 v171⟩, ⟨S8x1024, k0_pay35 v135 v136 v137 v139 v142 v143 v171⟩, ⟨S8x1024, k0_pay39 v187 v189 v190⟩, ⟨S8x1024, k0_pay40 v169 v170 v187 v189 v190⟩, ⟨S8x1024, k0_pay41 v169 v170 v187 v189 v190⟩, ⟨S8x1024, k0_pay42 v169 v170 v187 v189 v190⟩, ⟨S8x1024, k0_pay43 v169 v170 v187 v189 v190⟩, ⟨S8x1024, k0_pay44 v169 v170 v187 v189 v190⟩, ⟨S8x1024, k0_pay45 v169 v170 v187 v189 v190⟩, ⟨S8x1024, k0_pay46 v169 v170 v187 v189 v190⟩, ⟨S8x1024, k0_pay47 v169 v170 v250⟩, ⟨S8x1024, k0_pay48 v169 v170 v250⟩, ⟨S8x1024, k0_pay49 v169 v170 v250⟩, ⟨S8x1024, k0_pay50 v169 v170 v250⟩, ⟨S8x1024, k0_pay51 v169 v170 v250⟩, ⟨S8x1024, k0_pay52 v169 v170 v250⟩, ⟨S8x1024, k0_pay53 v169 v170 v250⟩, ⟨S8x1024, k0_pay57 v307 v309 v310⟩, ⟨S8x1024, k0_pay58 v169 v170 v307 v309 v310⟩, ⟨S8x1024, k0_pay59 v169 v170 v307 v309 v310⟩, ⟨S8x1024, k0_pay60 v169 v170 v307 v309 v310⟩, ⟨S8x1024, k0_pay61 v169 v170 v307 v309 v310⟩, ⟨S8x1024, k0_pay62 v169 v170 v307 v309 v310⟩, ⟨S8x1024, k0_pay63 v169 v170 v307 v309 v310⟩, ⟨S8x1024, k0_pay64 v169 v170 v307 v309 v310⟩, ⟨S8x1024, k0_pay65 v169 v170 v370⟩, ⟨S8x1024, k0_pay66 v169 v170 v370⟩, ⟨S8x1024, k0_pay67 v169 v170 v370⟩, ⟨S8x1024, k0_pay68 v169 v170 v370⟩, ⟨S8x1024, k0_pay69 v169 v170 v370⟩, ⟨S8x1024, k0_pay70 v169 v170 v370⟩, ⟨S8x1024, k0_pay71 v169 v170 v370⟩]
      concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S256x1024_d0
      = groups (hAt v169 v170 v171) := by
  unfold groups
  refine concat_congr ?_ _ _
  rw [list32, grp0 v135 v136 v142 v143 v137 v139 v171 v169 v170 v187 v189 v190 v250 v307 v309 v310 v370 h169 h170 h187 h189 h190 h250 h307 h309 h310 h370, grp1 v135 v136 v142 v143 v137 v139 v171 v169 v170 v187 v189 v190 v250 v307 v309 v310 v370 h169 h170 h187 h189 h190 h250 h307 h309 h310 h370, grp2 v135 v136 v142 v143 v137 v139 v171 v169 v170 v187 v189 v190 v250 v307 v309 v310 v370 h169 h170 h187 h189 h190 h250 h307 h309 h310 h370, grp3 v135 v136 v142 v143 v137 v139 v171 v169 v170 v187 v189 v190 v250 v307 v309 v310 v370 h169 h170 h187 h189 h190 h250 h307 h309 h310 h370, grp4 v135 v136 v142 v143 v137 v139 v171 v169 v170 v187 v189 v190 v250 v307 v309 v310 v370 h169 h170 h187 h189 h190 h250 h307 h309 h310 h370, grp5 v135 v136 v142 v143 v137 v139 v171 v169 v170 v187 v189 v190 v250 v307 v309 v310 v370 h169 h170 h187 h189 h190 h250 h307 h309 h310 h370, grp6 v135 v136 v142 v143 v137 v139 v171 v169 v170 v187 v189 v190 v250 v307 v309 v310 v370 h169 h170 h187 h189 h190 h250 h307 h309 h310 h370, grp7 v135 v136 v142 v143 v137 v139 v171 v169 v170 v187 v189 v190 v250 v307 v309 v310 v370 h169 h170 h187 h189 h190 h250 h307 h309 h310 h370, grp8 v135 v136 v142 v143 v137 v139 v171 v169 v170 v187 v189 v190 v250 v307 v309 v310 v370 h169 h170 h187 h189 h190 h250 h307 h309 h310 h370, grp9 v135 v136 v142 v143 v137 v139 v171 v169 v170 v187 v189 v190 v250 v307 v309 v310 v370 h169 h170 h187 h189 h190 h250 h307 h309 h310 h370, grp10 v135 v136 v142 v143 v137 v139 v171 v169 v170 v187 v189 v190 v250 v307 v309 v310 v370 h169 h170 h187 h189 h190 h250 h307 h309 h310 h370, grp11 v135 v136 v142 v143 v137 v139 v171 v169 v170 v187 v189 v190 v250 v307 v309 v310 v370 h169 h170 h187 h189 h190 h250 h307 h309 h310 h370, grp12 v135 v136 v142 v143 v137 v139 v171 v169 v170 v187 v189 v190 v250 v307 v309 v310 v370 h169 h170 h187 h189 h190 h250 h307 h309 h310 h370, grp13 v135 v136 v142 v143 v137 v139 v171 v169 v170 v187 v189 v190 v250 v307 v309 v310 v370 h169 h170 h187 h189 h190 h250 h307 h309 h310 h370, grp14 v135 v136 v142 v143 v137 v139 v171 v169 v170 v187 v189 v190 v250 v307 v309 v310 v370 h169 h170 h187 h189 h190 h250 h307 h309 h310 h370, grp15 v135 v136 v142 v143 v137 v139 v171 v169 v170 v187 v189 v190 v250 v307 v309 v310 v370 h169 h170 h187 h189 h190 h250 h307 h309 h310 h370, grp16 v135 v136 v142 v143 v137 v139 v171 v169 v170 v187 v189 v190 v250 v307 v309 v310 v370 h169 h170 h187 h189 h190 h250 h307 h309 h310 h370, grp17 v135 v136 v142 v143 v137 v139 v171 v169 v170 v187 v189 v190 v250 v307 v309 v310 v370 h169 h170 h187 h189 h190 h250 h307 h309 h310 h370, grp18 v135 v136 v142 v143 v137 v139 v171 v169 v170 v187 v189 v190 v250 v307 v309 v310 v370 h169 h170 h187 h189 h190 h250 h307 h309 h310 h370, grp19 v135 v136 v142 v143 v137 v139 v171 v169 v170 v187 v189 v190 v250 v307 v309 v310 v370 h169 h170 h187 h189 h190 h250 h307 h309 h310 h370, grp20 v135 v136 v142 v143 v137 v139 v171 v169 v170 v187 v189 v190 v250 v307 v309 v310 v370 h169 h170 h187 h189 h190 h250 h307 h309 h310 h370, grp21 v135 v136 v142 v143 v137 v139 v171 v169 v170 v187 v189 v190 v250 v307 v309 v310 v370 h169 h170 h187 h189 h190 h250 h307 h309 h310 h370, grp22 v135 v136 v142 v143 v137 v139 v171 v169 v170 v187 v189 v190 v250 v307 v309 v310 v370 h169 h170 h187 h189 h190 h250 h307 h309 h310 h370, grp23 v135 v136 v142 v143 v137 v139 v171 v169 v170 v187 v189 v190 v250 v307 v309 v310 v370 h169 h170 h187 h189 h190 h250 h307 h309 h310 h370, grp24 v135 v136 v142 v143 v137 v139 v171 v169 v170 v187 v189 v190 v250 v307 v309 v310 v370 h169 h170 h187 h189 h190 h250 h307 h309 h310 h370, grp25 v135 v136 v142 v143 v137 v139 v171 v169 v170 v187 v189 v190 v250 v307 v309 v310 v370 h169 h170 h187 h189 h190 h250 h307 h309 h310 h370, grp26 v135 v136 v142 v143 v137 v139 v171 v169 v170 v187 v189 v190 v250 v307 v309 v310 v370 h169 h170 h187 h189 h190 h250 h307 h309 h310 h370, grp27 v135 v136 v142 v143 v137 v139 v171 v169 v170 v187 v189 v190 v250 v307 v309 v310 v370 h169 h170 h187 h189 h190 h250 h307 h309 h310 h370, grp28 v135 v136 v142 v143 v137 v139 v171 v169 v170 v187 v189 v190 v250 v307 v309 v310 v370 h169 h170 h187 h189 h190 h250 h307 h309 h310 h370, grp29 v135 v136 v142 v143 v137 v139 v171 v169 v170 v187 v189 v190 v250 v307 v309 v310 v370 h169 h170 h187 h189 h190 h250 h307 h309 h310 h370, grp30 v135 v136 v142 v143 v137 v139 v171 v169 v170 v187 v189 v190 v250 v307 v309 v310 v370 h169 h170 h187 h189 h190 h250 h307 h309 h310 h370, grp31 v135 v136 v142 v143 v137 v139 v171 v169 v170 v187 v189 v190 v250 v307 v309 v310 v370 h169 h170 h187 h189 h190 h250 h307 h309 h310 h370]

/-- The state the tile leaves is the last row of the last group. -/
theorem chain_last : k0_pay72 v169 v170 v370
      = broadcastTo S8x1024 (shapeCast S1x1024 (lastRow (hAt v169 v170 v171 31 (by decide))) shapeCasts_S1x1024_S1x1024)
          broadcasts_S1x1024_S8x1024 := by
  rw [← grp31 v135 v136 v142 v143 v137 v139 v171 v169 v170 v187 v189 v190 v250 v307 v309 v310 v370 h169 h170 h187 h189 h190 h250 h307 h309 h310 h370]; rfl

end

end Cert.KernelIdeal.Blocks

end
-- ==== Proof.Mix.PointsA.lean ====
module

public import proofs.«01_k».proof.Proof.Mix.Chain

@[expose] public section

set_option maxRecDepth 16384

noncomputable section

/-! # What a grid point leaves: the first tile of a sequence -/

namespace Cert.KernelIdeal.Blocks

open Cert.KernelIdeal Cert.KernelIdeal.Gen Idealize.ShloMosaic Idealize.ShloMosaic.TcCoe Idealize.SL.Sem
open Idealize.ShloMosaic.Tactic Idealize.ShloMosaic.ValueIdx

variable {F : FTy → Type} [FloatOps F]

/-- What the point leaves as the first output. -/
theorem out0_A_13_eq (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S3x1024 .f32) (harg8 : arg8.IsWhole) (arg9 : Memref sig .tc .vmem S4x1024 .f32) (harg9 : arg9.IsWhole) (arg10 : Memref sig .tc .vmem S1x1024 .f32) (harg10 : arg10.IsWhole) (arg11 : Memref sig .tc .vmem S4x256x512 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S264x1024 .f32) (harg17 : arg17.IsWhole) (arg18 : Memref sig .tc .vmem S264x1024 .f32) (harg18 : arg18.IsWhole) (arg19 : Memref sig .tc .vmem S8x1024 .f32) (harg19 : arg19.IsWhole) (hc0 : cond0_0 i)
    (x0 : Vec F S256x1024 .bf16) (x1 : Vec F S256x1024 .bf16) (x2 : Vec F S256x1024 .bf16) (x3 : Vec F S256x1024 .bf16) (x4 : Vec F S256x1024 .bf16) (x5 : Vec F S256x1024 .bf16) (x6 : Vec F S3x1024 .f32) (x7 : Vec F S4x1024 .f32) (x8 : Vec F S1x1024 .f32) (x9 : Vec F S4x256x512 .bf16) (x10 : Vec F S1x1024 .f32) (x11 : Vec F S1x1024 .f32) (x12 : Vec F S1x1024 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12
      = outC (k0_pay3 (F := F)) x0 x1 x2 x3 x6 := by
  unfold out0_A_13 kernelRun0_A; dsimp only; sl_unfold_words
  simp only [View.read_writes_junk_eq_canon, canon_zero2, View.readCov_cons_toLoadRect]
  simp (disch := decide) only [canon_head, canon_tile, load_shift_canon, load_shift_over, load_tail, load_row_cov]
  simp only [View.readAt_eq_ld, Memref.IsWhole.read_unread, ld_zero2]
  simp (disch := decide) only [load_row, load_quarter]
  rfl

/-- What the point leaves as the second output. -/
theorem out0_A_14_eq (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S3x1024 .f32) (harg8 : arg8.IsWhole) (arg9 : Memref sig .tc .vmem S4x1024 .f32) (harg9 : arg9.IsWhole) (arg10 : Memref sig .tc .vmem S1x1024 .f32) (harg10 : arg10.IsWhole) (arg11 : Memref sig .tc .vmem S4x256x512 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S264x1024 .f32) (harg17 : arg17.IsWhole) (arg18 : Memref sig .tc .vmem S264x1024 .f32) (harg18 : arg18.IsWhole) (arg19 : Memref sig .tc .vmem S8x1024 .f32) (harg19 : arg19.IsWhole) (hc0 : cond0_0 i)
    (x0 : Vec F S256x1024 .bf16) (x1 : Vec F S256x1024 .bf16) (x2 : Vec F S256x1024 .bf16) (x3 : Vec F S256x1024 .bf16) (x4 : Vec F S256x1024 .bf16) (x5 : Vec F S256x1024 .bf16) (x6 : Vec F S3x1024 .f32) (x7 : Vec F S4x1024 .f32) (x8 : Vec F S1x1024 .f32) (x9 : Vec F S4x256x512 .bf16) (x10 : Vec F S1x1024 .f32) (x11 : Vec F S1x1024 .f32) (x12 : Vec F S1x1024 .f32) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12
      = outD (k0_pay4 (F := F)) (k0_pay10 x4) x7 x8 x9 x10 x11 x12 (row 0 (by decide) (k0_pay5 (F := F))) x5 := by
  unfold out0_A_14 kernelRun0_A; dsimp only; sl_unfold_words
  simp only [View.read_writes_junk_eq_canon, canon_zero2, View.readCov_cons_toLoadRect]
  refine Eq.trans (congrFun (congrArg k0_pay2 (chain _ _ _ _ _ _ _ _ _ _ _ _ _ _ _ _ _ rfl rfl rfl rfl rfl rfl rfl rfl rfl rfl)) _) ?_
  simp only [View.readCov_cons_toLoadRect]
  simp (disch := decide) only [canon_head, canon_tile, load_shift_canon, load_shift_over, load_tail, load_row_cov]
  simp only [View.readAt_eq_ld, Memref.IsWhole.read_unread, ld_zero2]
  simp (disch := decide) only [load_row, load_quarter]
  delta outD hV u3V a3V xsV preA preX conv4a
  exact tile_congr rfl rfl rfl rfl

/-- What the point leaves as the first buffer. -/
theorem sout0_A_0_eq (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S3x1024 .f32) (harg8 : arg8.IsWhole) (arg9 : Memref sig .tc .vmem S4x1024 .f32) (harg9 : arg9.IsWhole) (arg10 : Memref sig .tc .vmem S1x1024 .f32) (harg10 : arg10.IsWhole) (arg11 : Memref sig .tc .vmem S4x256x512 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S264x1024 .f32) (harg17 : arg17.IsWhole) (arg18 : Memref sig .tc .vmem S264x1024 .f32) (harg18 : arg18.IsWhole) (arg19 : Memref sig .tc .vmem S8x1024 .f32) (harg19 : arg19.IsWhole) (hc0 : cond0_0 i)
    (x0 : Vec F S256x1024 .bf16) (x1 : Vec F S256x1024 .bf16) (x2 : Vec F S256x1024 .bf16) (x3 : Vec F S256x1024 .bf16) (x4 : Vec F S256x1024 .bf16) (x5 : Vec F S256x1024 .bf16) (x6 : Vec F S3x1024 .f32) (x7 : Vec F S4x1024 .f32) (x8 : Vec F S1x1024 .f32) (x9 : Vec F S4x256x512 .bf16) (x10 : Vec F S1x1024 .f32) (x11 : Vec F S1x1024 .f32) (x12 : Vec F S1x1024 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12
      = cat (tail (k0_pay6 x1 x2)) (k0_pay6 x1 x2) := by
  unfold sout0_A_0 kernelRun0_A; dsimp only; sl_unfold_words
  simp only [View.read_writes_junk_eq_canon, canon_zero2, View.readCov_cons_toLoadRect]
  simp (disch := decide) only [canon_head, canon_tile, load_shift_canon, load_shift_over, load_tail, load_row_cov]
  simp only [keep_row, keep_row']
  simp only [View.readAt_eq_ld, Memref.IsWhole.read_unread, ld_zero2]

/-- What the point leaves as the second buffer. -/
theorem sout0_A_1_eq (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S3x1024 .f32) (harg8 : arg8.IsWhole) (arg9 : Memref sig .tc .vmem S4x1024 .f32) (harg9 : arg9.IsWhole) (arg10 : Memref sig .tc .vmem S1x1024 .f32) (harg10 : arg10.IsWhole) (arg11 : Memref sig .tc .vmem S4x256x512 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S264x1024 .f32) (harg17 : arg17.IsWhole) (arg18 : Memref sig .tc .vmem S264x1024 .f32) (harg18 : arg18.IsWhole) (arg19 : Memref sig .tc .vmem S8x1024 .f32) (harg19 : arg19.IsWhole) (hc0 : cond0_0 i)
    (x0 : Vec F S256x1024 .bf16) (x1 : Vec F S256x1024 .bf16) (x2 : Vec F S256x1024 .bf16) (x3 : Vec F S256x1024 .bf16) (x4 : Vec F S256x1024 .bf16) (x5 : Vec F S256x1024 .bf16) (x6 : Vec F S3x1024 .f32) (x7 : Vec F S4x1024 .f32) (x8 : Vec F S1x1024 .f32) (x9 : Vec F S4x256x512 .bf16) (x10 : Vec F S1x1024 .f32) (x11 : Vec F S1x1024 .f32) (x12 : Vec F S1x1024 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12
      = cat (tail (k0_pay10 x4)) (k0_pay10 x4) := by
  unfold sout0_A_1 kernelRun0_A; dsimp only; sl_unfold_words
  simp only [View.read_writes_junk_eq_canon, canon_zero2, View.readCov_cons_toLoadRect]
  simp (disch := decide) only [canon_head, canon_tile, load_shift_canon, load_shift_over, load_tail, load_row_cov]
  simp only [keep_row, keep_row']
  simp only [View.readAt_eq_ld, Memref.IsWhole.read_unread, ld_zero2]

/-- What the point leaves as the state. -/
theorem sout0_A_2_eq (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S3x1024 .f32) (harg8 : arg8.IsWhole) (arg9 : Memref sig .tc .vmem S4x1024 .f32) (harg9 : arg9.IsWhole) (arg10 : Memref sig .tc .vmem S1x1024 .f32) (harg10 : arg10.IsWhole) (arg11 : Memref sig .tc .vmem S4x256x512 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S264x1024 .f32) (harg17 : arg17.IsWhole) (arg18 : Memref sig .tc .vmem S264x1024 .f32) (harg18 : arg18.IsWhole) (arg19 : Memref sig .tc .vmem S8x1024 .f32) (harg19 : arg19.IsWhole) (hc0 : cond0_0 i)
    (x0 : Vec F S256x1024 .bf16) (x1 : Vec F S256x1024 .bf16) (x2 : Vec F S256x1024 .bf16) (x3 : Vec F S256x1024 .bf16) (x4 : Vec F S256x1024 .bf16) (x5 : Vec F S256x1024 .bf16) (x6 : Vec F S3x1024 .f32) (x7 : Vec F S4x1024 .f32) (x8 : Vec F S1x1024 .f32) (x9 : Vec F S4x256x512 .bf16) (x10 : Vec F S1x1024 .f32) (x11 : Vec F S1x1024 .f32) (x12 : Vec F S1x1024 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12
      = outH (k0_pay4 (F := F)) (k0_pay10 x4) x7 x8 x9 x10 x11 x12 (row 0 (by decide) (k0_pay5 (F := F))) := by
  unfold sout0_A_2 kernelRun0_A; dsimp only; sl_unfold_words
  simp only [View.read_writes_junk_eq_canon, canon_zero2, View.readCov_cons_toLoadRect]
  rw [keep_state]
  refine Eq.trans (chain_last _ _ _ _ _ _ _ _ _ _ _ _ _ _ _ _ _ rfl rfl rfl rfl rfl rfl rfl rfl rfl rfl) ?_
  simp (disch := decide) only [canon_head, canon_tile, load_shift_canon, load_shift_over, load_tail, load_row_cov]
  simp only [View.readAt_eq_ld, Memref.IsWhole.read_unread, ld_zero2]
  simp (disch := decide) only [load_row, load_quarter]
  delta outH hV u3V a3V xsV preA preX conv4a
  rfl

end Cert.KernelIdeal.Blocks

end
-- ==== Proof.Mix.PointsB.lean ====
module

public import proofs.«01_k».proof.Proof.Mix.Chain

@[expose] public section

set_option maxRecDepth 16384

noncomputable section

/-! # What a grid point leaves: a tile with one before it -/

namespace Cert.KernelIdeal.Blocks

open Cert.KernelIdeal Cert.KernelIdeal.Gen Idealize.ShloMosaic Idealize.ShloMosaic.TcCoe Idealize.SL.Sem
open Idealize.ShloMosaic.Tactic Idealize.ShloMosaic.ValueIdx

variable {F : FTy → Type} [FloatOps F]

/-- What the point leaves as the first output. -/
theorem out0_B_13_eq (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S3x1024 .f32) (harg8 : arg8.IsWhole) (arg9 : Memref sig .tc .vmem S4x1024 .f32) (harg9 : arg9.IsWhole) (arg10 : Memref sig .tc .vmem S1x1024 .f32) (harg10 : arg10.IsWhole) (arg11 : Memref sig .tc .vmem S4x256x512 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S264x1024 .f32) (harg17 : arg17.IsWhole) (arg18 : Memref sig .tc .vmem S264x1024 .f32) (harg18 : arg18.IsWhole) (arg19 : Memref sig .tc .vmem S8x1024 .f32) (harg19 : arg19.IsWhole) (hc0 : ¬cond0_0 i)
    (x0 : Vec F S256x1024 .bf16) (x1 : Vec F S256x1024 .bf16) (x2 : Vec F S256x1024 .bf16) (x3 : Vec F S256x1024 .bf16) (x4 : Vec F S256x1024 .bf16) (x5 : Vec F S256x1024 .bf16) (x6 : Vec F S3x1024 .f32) (x7 : Vec F S4x1024 .f32) (x8 : Vec F S1x1024 .f32) (x9 : Vec F S4x256x512 .bf16) (x10 : Vec F S1x1024 .f32) (x11 : Vec F S1x1024 .f32) (x12 : Vec F S1x1024 .f32) (xs0 : Vec F S264x1024 .f32) (xs1 : Vec F S264x1024 .f32) (xs2 : Vec F S8x1024 .f32) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0 xs1 xs2
      = outC (top xs0) x0 x1 x2 x3 x6 := by
  unfold out0_B_13 kernelRun0_B; dsimp only; sl_unfold_words
  simp only [View.read_writes_junk_eq_canon, canon_zero2, View.readCov_cons_toLoadRect]
  simp (disch := decide) only [canon_head, canon_tile, load_shift_canon, load_shift_over, load_tail, load_row_cov]
  simp only [View.readAt_eq_ld, Memref.IsWhole.read_unread, ld_zero2]
  simp (disch := decide) only [load_row, load_quarter]
  rfl

/-- What the point leaves as the second output. -/
theorem out0_B_14_eq (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S3x1024 .f32) (harg8 : arg8.IsWhole) (arg9 : Memref sig .tc .vmem S4x1024 .f32) (harg9 : arg9.IsWhole) (arg10 : Memref sig .tc .vmem S1x1024 .f32) (harg10 : arg10.IsWhole) (arg11 : Memref sig .tc .vmem S4x256x512 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S264x1024 .f32) (harg17 : arg17.IsWhole) (arg18 : Memref sig .tc .vmem S264x1024 .f32) (harg18 : arg18.IsWhole) (arg19 : Memref sig .tc .vmem S8x1024 .f32) (harg19 : arg19.IsWhole) (hc0 : ¬cond0_0 i)
    (x0 : Vec F S256x1024 .bf16) (x1 : Vec F S256x1024 .bf16) (x2 : Vec F S256x1024 .bf16) (x3 : Vec F S256x1024 .bf16) (x4 : Vec F S256x1024 .bf16) (x5 : Vec F S256x1024 .bf16) (x6 : Vec F S3x1024 .f32) (x7 : Vec F S4x1024 .f32) (x8 : Vec F S1x1024 .f32) (x9 : Vec F S4x256x512 .bf16) (x10 : Vec F S1x1024 .f32) (x11 : Vec F S1x1024 .f32) (x12 : Vec F S1x1024 .f32) (xs0 : Vec F S264x1024 .f32) (xs1 : Vec F S264x1024 .f32) (xs2 : Vec F S8x1024 .f32) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0 xs1 xs2
      = outD (top xs1) (k0_pay10 x4) x7 x8 x9 x10 x11 x12 (row 0 (by decide) xs2) x5 := by
  unfold out0_B_14 kernelRun0_B; dsimp only; sl_unfold_words
  simp only [View.read_writes_junk_eq_canon, canon_zero2, View.readCov_cons_toLoadRect]
  refine Eq.trans (congrFun (congrArg k0_pay2 (chain _ _ _ _ _ _ _ _ _ _ _ _ _ _ _ _ _ rfl rfl rfl rfl rfl rfl rfl rfl rfl rfl)) _) ?_
  simp only [View.readCov_cons_toLoadRect]
  simp (disch := decide) only [canon_head, canon_tile, load_shift_canon, load_shift_over, load_tail, load_row_cov]
  simp only [View.readAt_eq_ld, Memref.IsWhole.read_unread, ld_zero2]
  simp (disch := decide) only [load_row, load_quarter]
  delta outD hV u3V a3V xsV preA preX conv4a
  exact tile_congr rfl rfl rfl rfl

/-- What the point leaves as the first buffer. -/
theorem sout0_B_0_eq (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S3x1024 .f32) (harg8 : arg8.IsWhole) (arg9 : Memref sig .tc .vmem S4x1024 .f32) (harg9 : arg9.IsWhole) (arg10 : Memref sig .tc .vmem S1x1024 .f32) (harg10 : arg10.IsWhole) (arg11 : Memref sig .tc .vmem S4x256x512 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S264x1024 .f32) (harg17 : arg17.IsWhole) (arg18 : Memref sig .tc .vmem S264x1024 .f32) (harg18 : arg18.IsWhole) (arg19 : Memref sig .tc .vmem S8x1024 .f32) (harg19 : arg19.IsWhole) (hc0 : ¬cond0_0 i)
    (x0 : Vec F S256x1024 .bf16) (x1 : Vec F S256x1024 .bf16) (x2 : Vec F S256x1024 .bf16) (x3 : Vec F S256x1024 .bf16) (x4 : Vec F S256x1024 .bf16) (x5 : Vec F S256x1024 .bf16) (x6 : Vec F S3x1024 .f32) (x7 : Vec F S4x1024 .f32) (x8 : Vec F S1x1024 .f32) (x9 : Vec F S4x256x512 .bf16) (x10 : Vec F S1x1024 .f32) (x11 : Vec F S1x1024 .f32) (x12 : Vec F S1x1024 .f32) (xs0 : Vec F S264x1024 .f32) (xs1 : Vec F S264x1024 .f32) (xs2 : Vec F S8x1024 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0 xs1 xs2
      = cat (tail (k0_pay6 x1 x2)) (k0_pay6 x1 x2) := by
  unfold sout0_B_0 kernelRun0_B; dsimp only; sl_unfold_words
  simp only [View.read_writes_junk_eq_canon, canon_zero2, View.readCov_cons_toLoadRect]
  simp (disch := decide) only [canon_head, canon_tile, load_shift_canon, load_shift_over, load_tail, load_row_cov]
  simp only [keep_row, keep_row']
  simp only [View.readAt_eq_ld, Memref.IsWhole.read_unread, ld_zero2]

/-- What the point leaves as the second buffer. -/
theorem sout0_B_1_eq (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S3x1024 .f32) (harg8 : arg8.IsWhole) (arg9 : Memref sig .tc .vmem S4x1024 .f32) (harg9 : arg9.IsWhole) (arg10 : Memref sig .tc .vmem S1x1024 .f32) (harg10 : arg10.IsWhole) (arg11 : Memref sig .tc .vmem S4x256x512 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S264x1024 .f32) (harg17 : arg17.IsWhole) (arg18 : Memref sig .tc .vmem S264x1024 .f32) (harg18 : arg18.IsWhole) (arg19 : Memref sig .tc .vmem S8x1024 .f32) (harg19 : arg19.IsWhole) (hc0 : ¬cond0_0 i)
    (x0 : Vec F S256x1024 .bf16) (x1 : Vec F S256x1024 .bf16) (x2 : Vec F S256x1024 .bf16) (x3 : Vec F S256x1024 .bf16) (x4 : Vec F S256x1024 .bf16) (x5 : Vec F S256x1024 .bf16) (x6 : Vec F S3x1024 .f32) (x7 : Vec F S4x1024 .f32) (x8 : Vec F S1x1024 .f32) (x9 : Vec F S4x256x512 .bf16) (x10 : Vec F S1x1024 .f32) (x11 : Vec F S1x1024 .f32) (x12 : Vec F S1x1024 .f32) (xs0 : Vec F S264x1024 .f32) (xs1 : Vec F S264x1024 .f32) (xs2 : Vec F S8x1024 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0 xs1 xs2
      = cat (tail (k0_pay10 x4)) (k0_pay10 x4) := by
  unfold sout0_B_1 kernelRun0_B; dsimp only; sl_unfold_words
  simp only [View.read_writes_junk_eq_canon, canon_zero2, View.readCov_cons_toLoadRect]
  simp (disch := decide) only [canon_head, canon_tile, load_shift_canon, load_shift_over, load_tail, load_row_cov]
  simp only [keep_row, keep_row']
  simp only [View.readAt_eq_ld, Memref.IsWhole.read_unread, ld_zero2]

/-- What the point leaves as the state. -/
theorem sout0_B_2_eq (c : Dev nD) (i : grid0.Coords) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S3x1024 .f32) (harg8 : arg8.IsWhole) (arg9 : Memref sig .tc .vmem S4x1024 .f32) (harg9 : arg9.IsWhole) (arg10 : Memref sig .tc .vmem S1x1024 .f32) (harg10 : arg10.IsWhole) (arg11 : Memref sig .tc .vmem S4x256x512 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S264x1024 .f32) (harg17 : arg17.IsWhole) (arg18 : Memref sig .tc .vmem S264x1024 .f32) (harg18 : arg18.IsWhole) (arg19 : Memref sig .tc .vmem S8x1024 .f32) (harg19 : arg19.IsWhole) (hc0 : ¬cond0_0 i)
    (x0 : Vec F S256x1024 .bf16) (x1 : Vec F S256x1024 .bf16) (x2 : Vec F S256x1024 .bf16) (x3 : Vec F S256x1024 .bf16) (x4 : Vec F S256x1024 .bf16) (x5 : Vec F S256x1024 .bf16) (x6 : Vec F S3x1024 .f32) (x7 : Vec F S4x1024 .f32) (x8 : Vec F S1x1024 .f32) (x9 : Vec F S4x256x512 .bf16) (x10 : Vec F S1x1024 .f32) (x11 : Vec F S1x1024 .f32) (x12 : Vec F S1x1024 .f32) (xs0 : Vec F S264x1024 .f32) (xs1 : Vec F S264x1024 .f32) (xs2 : Vec F S8x1024 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0 xs1 xs2
      = outH (top xs1) (k0_pay10 x4) x7 x8 x9 x10 x11 x12 (row 0 (by decide) xs2) := by
  unfold sout0_B_2 kernelRun0_B; dsimp only; sl_unfold_words
  simp only [View.read_writes_junk_eq_canon, canon_zero2, View.readCov_cons_toLoadRect]
  rw [keep_state]
  refine Eq.trans (chain_last _ _ _ _ _ _ _ _ _ _ _ _ _ _ _ _ _ rfl rfl rfl rfl rfl rfl rfl rfl rfl rfl) ?_
  simp (disch := decide) only [canon_head, canon_tile, load_shift_canon, load_shift_over, load_tail, load_row_cov]
  simp only [View.readAt_eq_ld, Memref.IsWhole.read_unread, ld_zero2]
  simp (disch := decide) only [load_row, load_quarter]
  delta outH hV u3V a3V xsV preA preX conv4a
  rfl

end Cert.KernelIdeal.Blocks

end
-- ==== Proof.Mix.Scalar.lean ====
/- Extended reals: the decay's two forms, the softplus, and eight steps of an affine recurrence combined in three doublings. -/
module

public import Idealize.ShloMosaic.PureOps.Ideal

@[expose] public section

noncomputable section

namespace Cert.Mix

open Idealize.ShloMosaic

/-- One minus the square of an exponential, from the hyperbolic tangent: `tanh (-l) (e^l e^l + 1) = -(e^(2 l) - 1)`. -/
theorem decay_eq (l : EReal) :
    Ideal.tanh (0 - l) * (Ideal.exp l * Ideal.exp l + 1) = -(Ideal.exp (2 * l) - 1) := by
  induction l with
  | bot =>
    have h2 : (2 : EReal) * ⊥ = ⊥ := EReal.mul_bot_of_pos (by norm_num)
    rw [h2, zero_sub, EReal.neg_bot]
    simp
  | top =>
    have h2 : (2 : EReal) * ⊤ = ⊤ := EReal.mul_top_of_pos (by norm_num)
    rw [h2, zero_sub, EReal.neg_top]
    simp only [Ideal.tanh_bot, Ideal.exp_top, EReal.top_mul_top]
    have h1 : (⊤ : EReal) + 1 = ⊤ := EReal.top_add_of_ne_bot (by decide)
    have h3 : (⊤ : EReal) - 1 = ⊤ := by
      rw [sub_eq_add_neg]; exact EReal.top_add_of_ne_bot (by decide)
    rw [h1, h3, neg_mul, one_mul]
  | coe r =>
    have h2 : (2 : EReal) * (r : EReal) = ((2 * r : ℝ) : EReal) := by norm_cast
    have h0 : (0 : EReal) - (r : EReal) = ((-r : ℝ) : EReal) := by rw [zero_sub]; norm_cast
    rw [h2, h0]
    simp only [Ideal.tanh_coe, Ideal.exp_coe]
    have key : Real.tanh (-r) * (Real.exp r * Real.exp r + 1) = -(Real.exp (2 * r) - 1) := by
      rw [Real.tanh_neg, Real.tanh_eq_sinh_div_cosh, Real.sinh_eq, Real.cosh_eq, Real.exp_neg, two_mul, Real.exp_add]
      have := Real.exp_pos r
      field_simp
    exact_mod_cast key

/-- The logistic is between 0 and 1. -/
theorem logistic_nonneg (x : EReal) : 0 ≤ Ideal.logistic x := by
  induction x with
  | bot => simp
  | top => simp
  | coe r =>
    rw [Ideal.logistic_coe]
    have := Real.exp_pos (-r)
    exact_mod_cast (by positivity : (0 : ℝ) ≤ (1 + Real.exp (-r))⁻¹)

/-- An exponential is nonnegative. -/
theorem exp_nonneg (x : EReal) : 0 ≤ Ideal.exp x := by
  induction x with
  | bot => simp
  | top => simp
  | coe r =>
    rw [Ideal.exp_coe]
    exact_mod_cast (Real.exp_pos r).le

/-- The logarithm of one plus a nonnegative value is nonnegative. -/
theorem log1p_nonneg (x : EReal) (h : 0 ≤ x) : 0 ≤ Ideal.log1p x := by
  induction x with
  | bot => simp at h
  | top =>
    show 0 ≤ Ideal.log (1 + ⊤)
    rw [EReal.add_top_of_ne_bot (by decide)]; simp
  | coe r =>
    have hr : (0 : ℝ) ≤ r := by exact_mod_cast h
    show 0 ≤ Ideal.log (1 + (r : EReal))
    have e : (1 : EReal) + (r : EReal) = ((1 + r : ℝ) : EReal) := by norm_cast
    rw [e, Ideal.log_coe, if_neg (by linarith)]
    exact_mod_cast Real.log_nonneg (by linarith)

/-- A decay, the exponential of a negative multiple of nonnegative values, is finite. -/
theorem exp_ne_top (l : EReal) (h : l ≤ 0) : Ideal.exp l ≠ ⊤ := by
  induction l with
  | bot => simp
  | top => simp at h
  | coe r => rw [Ideal.exp_coe]; exact EReal.coe_ne_top _

/-- One doubling of the coefficients. -/
def dblA (k : ℕ) (a : ℕ → EReal) (s : ℕ) : EReal := a s * (if k ≤ s then a (s - k) else 1)

/-- One doubling of the values. -/
def dblU (k : ℕ) (a u : ℕ → EReal) (s : ℕ) : EReal := a s * (if k ≤ s then u (s - k) else 0) + u s

/-- The states of an affine recurrence from `c`. -/
def states (a u : ℕ → EReal) (c : EReal) : ℕ → EReal
  | 0 => c
  | t + 1 => a t * states a u c t + u t

/-- A value `j` steps back, zero before the start. -/
def lag (x : ℕ → EReal) (j t : ℕ) : EReal := if j ≤ t then x (t - j) else 0

/-- Three doublings over eight rows give the eight states. -/
theorem three_doublings (a u : ℕ → EReal) (c : EReal) (h0 : ∀ i, 0 ≤ a i) (h1 : ∀ i, a i ≠ ⊤) (s : ℕ) (hs : s < 8) :
    dblU 4 (dblA 2 (dblA 1 a)) (dblU 2 (dblA 1 a) (dblU 1 a u)) s + dblA 4 (dblA 2 (dblA 1 a)) s * c = states a u c (s + 1) := by
  have hd : ∀ i x y, a i * (x + y) = a i * x + a i * y := fun i x y => EReal.left_distrib_of_nonneg_of_ne_top (h0 i) (h1 i) x y
  interval_cases s <;> simp only [dblU, dblA, states] <;> norm_num <;> (try simp only [mul_assoc, hd]) <;> abel

end Cert.Mix

end
-- ==== Proof.Mix.RefPoint.lean ====
module

public import proofs.«01_k».proof.Proof.Mix.RefLoop
public import proofs.«01_k».proof.Proof.Mix.Scalar
public import Idealize.ShloMosaic.Lib.Pipeline.ValueKit

@[expose] public section

set_option maxRecDepth 16384

noncomputable section

/-! # The reference entry by entry

The scan's states of one sequence and channel are those of the affine recurrence with the decays `dec` and the inputs
`inp`. -/

namespace Cert.ReferenceIdeal.Loop

open Cert.ReferenceIdeal Cert.ReferenceIdeal.Gen Idealize.ShloMosaic Idealize.ShloMosaic.TcCoe Idealize.SL.Sem
open Idealize.ShloMosaic.Tactic
open Cert.ReferenceIdeal.Step

/-- The three starts of a trip's row: the trip's number, and zero twice. -/
theorem start0 (k : ℕ) (hk : k < 2048) (h) : Host.clampedStart S2048x8x1024 S1x8x1024 h
    (fun a => BitVec.toInt ((![constantI S_ 32 (BitVec.ofNat 32 k), constantI S_ 32 0#32, constantI S_ 32 0#32] : Fin 3 → IVec S_ 32) a (Shape.Idx.first h_S_))) 0 = k :=
  Host.clampedStart_of_le h _ 0 k (by
    show (BitVec.ofNat 32 k).toInt = (k : ℤ)
    rw [BitVec.toInt_eq_toNat_of_lt (by rw [BitVec.toNat_ofNat]; omega), BitVec.toNat_ofNat]
    norm_cast; omega) (by show k + 1 ≤ 2048; omega)

theorem start1 (k : ℕ) (h) : Host.clampedStart S2048x8x1024 S1x8x1024 h
    (fun a => BitVec.toInt ((![constantI S_ 32 (BitVec.ofNat 32 k), constantI S_ 32 0#32, constantI S_ 32 0#32] : Fin 3 → IVec S_ 32) a (Shape.Idx.first h_S_))) 1 = 0 :=
  Host.clampedStart_of_le h _ 1 0 rfl (by show 0 + 8 ≤ 8; omega)

theorem start2 (k : ℕ) (h) : Host.clampedStart S2048x8x1024 S1x8x1024 h
    (fun a => BitVec.toInt ((![constantI S_ 32 (BitVec.ofNat 32 k), constantI S_ 32 0#32, constantI S_ 32 0#32] : Fin 3 → IVec S_ 32) a (Shape.Idx.first h_S_))) 2 = 0 :=
  Host.clampedStart_of_le h _ 2 0 rfl (by show 0 + 1024 ≤ 1024; omega)

/-- A trip's new state. -/
theorem b9_at (k : ℕ) (hk : k < 2048) (s : State Ideal) (b : Fin 8) (d : Fin 1024) :
    b9 k s (ix2 b d) = s.main_v78_0 (ix3 (⟨k, hk⟩ : Fin 2048) b d) * s.main_v78_3 (ix2 b d) + s.main_v78_1 (ix3 (⟨k, hk⟩ : Fin 2048) b d) := by
  pointwise [b9, b8, b7, b6, b5, b4, b3, b2, b1, b0]
  have e : ∀ {x : Vec Ideal S2048x8x1024 .f32} {p q r : ℕ} (hp : p < 2048) (hq : q < 8) (hr : r < 1024), p = k → q = b.val → r = d.val →
      x (ix3 ⟨p, hp⟩ ⟨q, hq⟩ ⟨r, hr⟩) = x (ix3 (⟨k, hk⟩ : Fin 2048) b d) := by
    rintro x p q r hp hq hr rfl rfl rfl; rfl
  congr 1
  · congr 1
    exact e _ _ _ (start0 k hk _) (by rw [start1, zero_add]) (by rw [start2, zero_add])
  · exact e _ _ _ (start0 k hk _) (by rw [start1, zero_add]) (by rw [start2, zero_add])

/-- A trip's new array of states: its row is the new state, the others stay. -/
theorem b13_at (k : ℕ) (hk : k < 2048) (s : State Ideal) (t : Fin 2048) (b : Fin 8) (d : Fin 1024) :
    b13 k s (ix3 t b d) = if t.val = k then b9 k s (ix2 b d) else s.main_v78_4 (ix3 t b d) := by
  pointwise [b13, b12, b11, b10]
  simp only [start0 k hk, start1, start2]
  by_cases h : t.val = k
  · rw [if_pos h, dif_pos ⟨⟨by omega, by omega⟩, by omega, by omega⟩]
    congr 1
  · rw [if_neg h, dif_neg (by rintro ⟨⟨h1, h2⟩, -⟩; omega)]

variable (m : (ℓ : Loc nD τ sig) → Buf (Elt Ideal) ℓ) (c : Dev nD)

variable (P : Vec Ideal S16384x19968 .bf16) (W : Vec Ideal S4x1024 .f32) (B : Vec Ideal S1024 .f32) (Wa : Vec Ideal S16x64x64 .f32)
  (Ba : Vec Ideal S1024 .f32) (Wx : Vec Ideal S16x64x64 .f32) (Bx : Vec Ideal S1024 .f32) (La : Vec Ideal S1024 .f32)

/-- The decays of one sequence and channel, in time. -/
def dec (b : Fin 8) (d : Fin 1024) (t : ℕ) : EReal :=
  if h : t < 2048 then A_main_v75 P W B Wa Ba Wx Bx La (ix3 (⟨t, h⟩ : Fin 2048) b d) else 0

/-- The inputs of one sequence and channel, in time. -/
def inp (b : Fin 8) (d : Fin 1024) (t : ℕ) : EReal :=
  if h : t < 2048 then A_main_v76 P W B Wa Ba Wx Bx La (ix3 (⟨t, h⟩ : Fin 2048) b d) else 0

/-- The states of one sequence and channel, in time. -/
def hid (b : Fin 8) (d : Fin 1024) : ℕ → EReal :=
  Mix.states (dec P W B Wa Ba Wx Bx La b d) (inp P W B Wa Ba Wx Bx La b d) 0

/-- The states of one sequence and channel, of the arguments in memory. -/
abbrev hidM (b : Fin 8) (d : Fin 1024) : ℕ → EReal :=
  hid (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) b d

/-- The decays and the inputs stay through the loop. -/
theorem st_const : ∀ k, (st m c k).main_v78_0 = (st m c 0).main_v78_0 ∧ (st m c k).main_v78_1 = (st m c 0).main_v78_1
  | 0 => ⟨rfl, rfl⟩
  | k + 1 => ⟨(st_const k).1, (st_const k).2⟩

/-- After `k` trips the loop holds the recurrence's state number `k`. -/
theorem st_h (b : Fin 8) (d : Fin 1024) : ∀ k, k ≤ 2048 → (st m c k).main_v78_3 (ix2 b d) = hidM m c b d k
  | 0, _ => by
    show (K_main_v74 (F := Ideal)) (ix2 b d) = 0
    pointwise [K_main_v74, K_main_cst_5]
  | k + 1, hk => by
    show b9 k (st m c k) (ix2 b d) = _
    rw [b9_at k (by omega), st_h b d k (by omega), (st_const m c k).1, (st_const m c k).2]
    have hk' : k < 2048 := by omega
    refine Eq.trans ?_ (show dec _ _ _ _ _ _ _ _ b d k * hidM m c b d k + inp _ _ _ _ _ _ _ _ b d k = hidM m c b d (k + 1) from rfl)
    unfold dec inp
    rw [dif_pos hk', dif_pos hk']
    rfl

/-- After `k` trips the rows before `k` hold the recurrence's states. -/
theorem st_hs (b : Fin 8) (d : Fin 1024) (t : Fin 2048) : ∀ k, t.val < k → k ≤ 2048 →
    (st m c k).main_v78_4 (ix3 t b d) = hidM m c b d (t.val + 1)
  | 0, h, _ => absurd h (by omega)
  | k + 1, ht, hk => by
    show b13 k (st m c k) (ix3 t b d) = _
    rw [b13_at k (by omega)]
    by_cases h : t.val = k
    · rw [if_pos h, h]
      exact st_h m c b d (k + 1) hk
    · rw [if_neg h]
      exact st_hs b d t k (by omega) (by omega)

/-- One column of the projections, in time, of one sequence. -/
def col (P : Vec Ideal S16384x19968 .bf16) (b : Fin 8) (o : ℕ) (ho : o + 1024 ≤ 19968) (d : Fin 1024) (t : ℕ) : EReal :=
  if h : t < 2048 then P (ix2 (⟨b.val * 2048 + t, by omega⟩ : Fin 16384) (⟨o + d.val, by omega⟩ : Fin 19968)) else 0

/-- The integer zero, converted. -/
theorem sitofp_zero : FloatOps.sitofp (F := Ideal) FTy.f32 (0#32) = (0 : EReal) := by
  show (((0#32 : BitVec 32).toInt : ℝ) : EReal) = 0
  simp

/-- The padding is zero. -/
theorem pad_zero : (K_main_call0_v0 (F := Ideal)) (Shape.Idx.first h_S_) = 0 := sitofp_zero

/-- A read of the padded columns is a value some steps back. -/
theorem lag_pad (b : Fin 8) (o : ℕ) (ho : o + 1024 ≤ 19968) (d : Fin 1024) (t : Fin 2048) (n e j : ℕ) (he : e + j = t.val + n)
    (h : n ≤ e ∧ e - n < 2048 → b.val * 2048 + (e - n) < 16384) :
    (if h' : n ≤ e ∧ e - n < 2048 then P (ix2 (⟨b.val * 2048 + (e - n), h h'⟩ : Fin 16384) (⟨o + d.val, by omega⟩ : Fin 19968)) else 0)
      = Mix.lag (col P b o ho d) j t.val := by
  have ht := t.isLt
  unfold Mix.lag col
  by_cases hj : j ≤ t.val
  · rw [dif_pos ⟨by omega, by omega⟩, if_pos hj, dif_pos (by omega)]
    congr 2
    exact Fin.ext (by show b.val * 2048 + (e - n) = b.val * 2048 + (t.val - j); omega)
  · rw [dif_neg (by omega), if_neg hj]

/-- The products of the two columns the convolution of three taps takes. -/
def prod (b : Fin 8) (d : Fin 1024) (t : ℕ) : EReal := col P b 14336 (by omega) d t * col P b 15360 (by omega) d t

/-- The convolution of four taps. -/
theorem conv_at (b : Fin 8) (t : Fin 2048) (d : Fin 1024) : A_main_v33 P W B Wa Ba Wx Bx La (ix3 b t d)
    = W (ix2 0 d) * Mix.lag (col P b 17408 (by omega) d) 3 t.val + W (ix2 1 d) * Mix.lag (col P b 17408 (by omega) d) 2 t.val
      + W (ix2 2 d) * Mix.lag (col P b 17408 (by omega) d) 1 t.val + W (ix2 3 d) * col P b 17408 (by omega) d t.val + B (ix1 d) := by
  pointwise [A_main_v33, A_main_v32, A_main_v31, A_main_v30, A_main_v29, A_main_v28, A_main_v27, A_main_v26, A_main_v25, A_main_v24, A_main_v23, A_main_v22, A_main_v21, A_main_v20, A_main_v19, A_main_v18, A_main_v17, A_main_v16, A_main_v15, A_main_v14, A_main_v13, A_main_v12, A_main_v11, A_main_v10, A_main_v9, A_main_v8, A_main_v7, A_main_v6, A_main_v5, A_main_v4, A_main_v3, A_main_v2, A_main_v1, A_main_v0]
  rw [pad_zero]
  have ht := t.isLt
  congr 1
  congr 1
  · congr 1
    · congr 1
      · exact congrArg _ (lag_pad P b 17408 _ d t 3 _ 3 (by omega) (by omega))
      · exact congrArg _ (lag_pad P b 17408 _ d t 3 _ 2 (by omega) (by omega))
    · exact congrArg _ (lag_pad P b 17408 _ d t 3 _ 1 (by omega) (by omega))
  · unfold col
    rw [dif_pos ht]

/-- The gate's products, of one of the two block weights. -/
theorem gateA_at (b : Fin 8) (t : Fin 2048) (d : Fin 1024) : A_main_v40 P W B Wa Ba Wx Bx La (ix3 b t d)
    = ∑ x : Fin 64, Wa (ix3 (⟨d.val / 64, by omega⟩ : Fin 16) x (⟨d.val % 64, by omega⟩ : Fin 64))
        * A_main_v33 P W B Wa Ba Wx Bx La (ix3 b t (⟨d.val / 64 * 64 + x.val, by omega⟩ : Fin 1024)) + Ba (ix1 d) := by
  pointwise [A_main_v40, A_main_v39, A_main_v38, A_main_v37, A_main_v36, A_main_v35, A_main_v34]

theorem gateX_at (b : Fin 8) (t : Fin 2048) (d : Fin 1024) : A_main_v52 P W B Wa Ba Wx Bx La (ix3 b t d)
    = ∑ x : Fin 64, Wx (ix3 (⟨d.val / 64, by omega⟩ : Fin 16) x (⟨d.val % 64, by omega⟩ : Fin 64))
        * A_main_v33 P W B Wa Ba Wx Bx La (ix3 b t (⟨d.val / 64 * 64 + x.val, by omega⟩ : Fin 1024)) + Bx (ix1 d) := by
  pointwise [A_main_v52, A_main_v51, A_main_v50, A_main_v49, A_main_v48, A_main_v47, A_main_v34]

/-- The softplus of the negated parameter. -/
theorem soft_at (d : Fin 1024) : A_main_v62 P W B Wa Ba Wx Bx La (ix1 d)
    = max (0 - La (ix1 d)) 0 + Ideal.log1p (Ideal.exp (0 - FloatOps.absf (F := Ideal) (φ := .f32) (0 - La (ix1 d)))) := by
  pointwise [A_main_v62, A_main_call1_v11, A_main_call1_v10, A_main_call1_v9, A_main_call1_v8, A_main_call1_v7, A_main_call1_v6, A_main_call1_v4, A_main_call1_v3, A_main_call1_v1, A_main_v61, K_main_call1_v0, K_main_call1_v2, K_main_call1_v5, K_main_call1_cst]
  rw [if_neg (fun h => h rfl), zero_sub, zero_sub]

/-- The logarithm of the decay. -/
def logdec (b : Fin 8) (t : Fin 2048) (d : Fin 1024) : EReal :=
  Ideal.ofBits FTy.f32 3238002688#32 * Ideal.logistic (A_main_v40 P W B Wa Ba Wx Bx La (ix3 b t d)) * A_main_v62 P W B Wa Ba Wx Bx La (ix1 d)

theorem decay_at (b : Fin 8) (t : Fin 2048) (d : Fin 1024) : A_main_v75 P W B Wa Ba Wx Bx La (ix3 t b d)
    = Ideal.exp (logdec P W B Wa Ba Wx Bx La b t d) := by
  unfold logdec Ideal.logistic
  pointwise [A_main_v75, A_main_v66, A_main_v65, A_main_v64, A_main_v63, A_main_v60, A_main_v46, A_main_v44, A_main_v42, A_main_v41, K_main_v59, K_main_cst_3, K_main_v45, K_main_v43, K_main_cst, K_main_cst_0]

/-- The constant 2. -/
theorem two : Ideal.ofBits FTy.f32 0x40000000#32 = 2 := by
  rw [show (2 : EReal) = ((2 : ℝ) : EReal) by norm_cast]
  simp [Ideal.ofBits, Ideal.ieee, -EReal.coe_mul]; norm_num

/-- The constant -8. -/
theorem minus_eight : Ideal.ofBits FTy.f32 0xC1000000#32 ≤ 0 := by
  rw [show Ideal.ofBits FTy.f32 0xC1000000#32 = ((-8 : ℝ) : EReal) by
    simp [Ideal.ofBits, Ideal.ieee, -EReal.coe_mul, -EReal.coe_neg]; norm_num]
  exact EReal.coe_nonpos.mpr (by norm_num)

theorem input_at (b : Fin 8) (t : Fin 2048) (d : Fin 1024) : A_main_v76 P W B Wa Ba Wx Bx La (ix3 t b d)
    = Ideal.sqrt (-(Ideal.exp (2 * logdec P W B Wa Ba Wx Bx La b t d) - 1))
      * (Ideal.logistic (A_main_v52 P W B Wa Ba Wx Bx La (ix3 b t d)) * A_main_v33 P W B Wa Ba Wx Bx La (ix3 b t d)) := by
  unfold logdec Ideal.logistic
  pointwise [A_main_v76, A_main_v73, A_main_v72, A_main_v71, A_main_v70, A_main_v69, A_main_v68, A_main_v65, A_main_v64, A_main_v63, A_main_v60, A_main_v58, A_main_v46, A_main_v44, A_main_v42, A_main_v41, A_main_v56, A_main_v54, A_main_v53, K_main_v67, K_main_cst_4, K_main_v59, K_main_cst_3, K_main_v57, K_main_v55, K_main_v45, K_main_v43, K_main_cst, K_main_cst_0, K_main_cst_1, K_main_cst_2]
  rw [two]

/-- The second result: the states, gated. -/
theorem scan_at (s : State Ideal) (b : Fin 8) (t : Fin 2048) (d : Fin 1024) : R_main_v137 s P (ix2 (⟨b.val * 2048 + t.val, by omega⟩ : Fin 16384) d)
    = s.main_v78_4 (ix3 t b d) * (col P b 18432 (by omega) d t.val * Ideal.logistic (col P b 18432 (by omega) d t.val)) := by
  unfold col Ideal.logistic
  rw [dif_pos t.isLt]
  pointwise [R_main_v137]

/-- The first result: the convolution of three taps, gated. -/
theorem first_at (W3 : Vec Ideal S3x1024 .f32) (s : State Ideal) (b : Fin 8) (t : Fin 2048) (d : Fin 1024) : R_main_v135 s P W3 (ix2 (⟨b.val * 2048 + t.val, by omega⟩ : Fin 16384) d)
    = col P b 13312 (by omega) d t.val * (W3 (ix2 0 d) * Mix.lag (prod P b d) 2 t.val + W3 (ix2 1 d) * Mix.lag (prod P b d) 1 t.val
        + W3 (ix2 2 d) * prod P b d t.val)
      * (col P b 16384 (by omega) d t.val * Ideal.logistic (col P b 16384 (by omega) d t.val)) := by
  have ht := t.isLt
  have e0 : ∀ j, Mix.lag (prod P b d) j t.val = Mix.lag (col P b 14336 (by omega) d) j t.val * Mix.lag (col P b 15360 (by omega) d) j t.val := by
    intro j
    unfold Mix.lag prod
    split <;> simp
  have e1 : ∀ (n e j : ℕ) (he : e + j = t.val + n) (h : n ≤ e ∧ e - n < 2048 → b.val * 2048 + (e - n) < 16384),
      (if h' : n ≤ e ∧ e - n < 2048 then P (ix2 (⟨b.val * 2048 + (e - n), h h'⟩ : Fin 16384) (⟨14336 + d.val, by omega⟩ : Fin 19968))
        * P (ix2 (⟨b.val * 2048 + (e - n), h h'⟩ : Fin 16384) (⟨15360 + d.val, by omega⟩ : Fin 19968)) else 0) = Mix.lag (prod P b d) j t.val := by
    intro n e j he h
    rw [e0, ← lag_pad P b 14336 _ d t n e j he h, ← lag_pad P b 15360 _ d t n e j he h]
    split <;> simp
  unfold Ideal.logistic
  pointwise [R_main_v135, K_main_call0_v0]
  rw [sitofp_zero]
  congr 1
  · congr 1
    · unfold col
      rw [dif_pos ht]
    · congr 1
      · congr 1
        · exact congrArg _ (e1 2 _ 2 (by omega) (by omega))
        · exact congrArg _ (e1 2 _ 1 (by omega) (by omega))
      · unfold prod col
        rw [dif_pos ht, dif_pos ht]
  · unfold col
    rw [dif_pos ht]

/-- The softplus is nonnegative. -/
theorem soft_nonneg (d : Fin 1024) : 0 ≤ A_main_v62 P W B Wa Ba Wx Bx La (ix1 d) := by
  rw [soft_at]
  exact add_nonneg (le_max_right _ _) (Mix.log1p_nonneg _ (Mix.exp_nonneg _))

/-- The logarithm of the decay is not positive. -/
theorem logdec_nonpos (b : Fin 8) (t : Fin 2048) (d : Fin 1024) : logdec P W B Wa Ba Wx Bx La b t d ≤ 0 := by
  unfold logdec
  exact mul_nonpos_of_nonpos_of_nonneg (mul_nonpos_of_nonpos_of_nonneg minus_eight (Mix.logistic_nonneg _)) (soft_nonneg _ _ _ _ _ _ _ _ d)

/-- The decays are nonnegative and finite. -/
theorem dec_nonneg (b : Fin 8) (d : Fin 1024) (t : ℕ) : 0 ≤ dec P W B Wa Ba Wx Bx La b d t := by
  unfold dec
  split
  · rw [decay_at]; exact Mix.exp_nonneg _
  · exact le_refl _

theorem dec_ne_top (b : Fin 8) (d : Fin 1024) (t : ℕ) : dec P W B Wa Ba Wx Bx La b d t ≠ ⊤ := by
  unfold dec
  split
  · rw [decay_at]; exact Mix.exp_ne_top _ (logdec_nonpos _ _ _ _ _ _ _ _ _ _ _)
  · exact EReal.zero_ne_top

end Cert.ReferenceIdeal.Loop

end
-- ==== Proof.Mix.HostPoint.lean ====
module

public import proofs.«01_k».proof.Proof.Mix.Tile
public import Idealize.ShloMosaic.Lib.Pipeline.ValueKit
public import Idealize.ShloMosaic.Lib.StableHlo.RunRead

@[expose] public section

set_option maxRecDepth 16384

noncomputable section

/-! # The block weights the host code builds

The sixteen blocks of 64 × 64 lie on the diagonals of four matrices of order 256. A row times such a matrix is the row's
part times the one block. -/

namespace Cert.KernelIdeal.Blocks

open Cert.KernelIdeal Cert.KernelIdeal.Gen Idealize.ShloMosaic Idealize.ShloMosaic.TcCoe Idealize.SL.Sem
open Idealize.ShloMosaic.Tactic

/-- The identity of order 4. -/
def eye4 : FVec Ideal S4x4 .f32 :=
  uitofp .f32 (cmpi .eq (addi (iotaInDim S4x4 32 0) (broadcastInDim S4x4 ![] bcast_S_S4x4 (constantI S_ 32 0#32))) (iotaInDim S4x4 32 1))

/-- Sixteen blocks of 64 on the diagonals of four matrices of order 256. -/
def diag (w : Vec Ideal S16x64x64 .f32) : FVec Ideal S4x256x256 .f32 :=
  shapeCast S4x256x256 (mulf
    (broadcastInDim S4x4x64x4x64 ![0, 1, 2, 3, 4] bcast_S4x4x64x1x64_S4x4x64x4x64_0_1_2_3_4
      (broadcastInDim S4x4x64x1x64 ![0, 1, 2, 4] bcast_S4x4x64x64_S4x4x64x1x64_0_1_2_4 (shapeCast S4x4x64x64 w shapeCasts_S16x64x64_S4x4x64x64)))
    (broadcastInDim S4x4x64x4x64 ![0, 1, 2, 3, 4] bcast_S1x4x1x4x1_S4x4x64x4x64_0_1_2_3_4
      (broadcastInDim S1x4x1x4x1 ![1, 2, 3, 4] bcast_S4x1x4x1_S1x4x1x4x1_1_2_3_4 (broadcastInDim S4x1x4x1 ![0, 2] bcast_S4x4_S4x1x4x1_0_2 eye4))))
    shapeCasts_S4x4x64x4x64_S4x256x256

/-- The two weights side by side. -/
def both (wa wx : Vec Ideal S16x64x64 .f32) : Vec Ideal S4x256x512 .bf16 :=
  truncf .bf16 (concatenate S4x256x512 2 [⟨S4x256x256, diag wa⟩, ⟨S4x256x256, diag wx⟩] concatenates_S4x256x256_S4x256x256_S4x256x512_d2) bitsLt_bf16_f32

variable (m : (ℓ : Loc nD τ sig) → Buf (Elt Ideal) ℓ)

set_option maxHeartbeats 1000000 in
/-- The weights the kernel is given. -/
theorem V_both (c : Dev nD) : V m c main_v23 = both (m ((c.tc : Thread nD τ).loc main_arg4)) (m ((c.tc : Thread nD τ).loc main_arg6)) := by
  unfold both diag eye4
  after_reads_simp
  rfl

/-- An entry of the identity's comparison. -/
theorem eq_at : ∀ i j : Fin 4, IntOp.cmpi CmpIPredicate.eq (IntOp.addi (BitVec.ofNat 32 i.val) 0#32) (BitVec.ofNat 32 j.val)
    = if i = j then 1#1 else 0#1 := by decide

/-- An entry of the block matrices: a block's entry on the diagonal, zero beside it. -/
theorem diag_at (w : Vec Ideal S16x64x64 .f32) (a : Fin 4) (x y : Fin 256) : diag w (ix3 a x y)
    = w (ix3 (⟨a.val * 4 + x.val / 64, by omega⟩ : Fin 16) (⟨x.val % 64, by omega⟩ : Fin 64) (⟨y.val % 64, by omega⟩ : Fin 64))
      * (if x.val / 64 = y.val / 64 then 1 else 0) := by
  pointwise [diag, eye4]
  congr 1
  rw [eq_at (⟨x.val / 64, by omega⟩ : Fin 4) (⟨y.val / 64, by omega⟩ : Fin 4)]
  by_cases h : x.val / 64 = y.val / 64
  · rw [if_pos (Fin.ext h), if_pos h]
    show (((1#1 : BitVec 1).toNat : ℝ) : EReal) = 1
    norm_num
  · rw [if_neg (fun e => h (congrArg Fin.val e)), if_neg h]
    show (((0#1 : BitVec 1).toNat : ℝ) : EReal) = 0
    norm_num

/-- A sum over 256 of four blocks of which one is kept. -/
theorem sum_block (F : Fin 256 → EReal) (k : Fin 4) (h : ∀ x : Fin 256, x.val / 64 ≠ k.val → F x = 0) :
    ∑ x : Fin 256, F x = ∑ x : Fin 64, F ⟨k.val * 64 + x.val, by omega⟩ := by
  have e : ∑ x : Fin 256, F x = ∑ p : Fin 4 × Fin 64, F ⟨p.1.val * 64 + p.2.val, by have := p.1.isLt; have := p.2.isLt; omega⟩ := by
    refine (Fintype.sum_equiv (finProdFinEquiv (m := 4) (n := 64)) _ _ fun p => ?_).symm
    congr 1
    exact Fin.ext (by show p.1.val * 64 + p.2.val = p.2.val + 64 * p.1.val; omega)
  rw [e, Fintype.sum_prod_type]
  refine Finset.sum_eq_single k (fun a _ ha => ?_) (fun ha => absurd (Finset.mem_univ k) ha)
  refine Finset.sum_eq_zero fun x _ => h _ ?_
  show (a.val * 64 + x.val) / 64 ≠ k.val
  have := x.isLt
  intro e
  exact ha (Fin.ext (by omega))

/-- A row times a block matrix. -/
theorem diag_sum (f : Fin 1024 → EReal) (w : Vec Ideal S16x64x64 .f32) (a : Fin 4) (y : Fin 256) :
    ∑ x : Fin 256, f ⟨256 * a.val + x.val, by omega⟩ * diag w (ix3 a x y)
      = ∑ x : Fin 64, w (ix3 (⟨(256 * a.val + y.val) / 64, by omega⟩ : Fin 16) x (⟨(256 * a.val + y.val) % 64, by omega⟩ : Fin 64))
        * f ⟨(256 * a.val + y.val) / 64 * 64 + x.val, by omega⟩ := by
  rw [sum_block _ ⟨y.val / 64, by omega⟩ (fun x hx => by rw [diag_at, if_neg hx, mul_zero, mul_zero])]
  refine Finset.sum_congr rfl fun x _ => ?_
  have hx := x.isLt
  rw [diag_at, if_pos (by show (y.val / 64 * 64 + x.val) / 64 = _; omega), mul_one, mul_comm]
  congr 1
  · congr 1
    exact ext3 (by show a.val * 4 + (y.val / 64 * 64 + x.val) / 64 = (256 * a.val + y.val) / 64; omega)
      (by show (y.val / 64 * 64 + x.val) % 64 = x.val; omega) (by show y.val % 64 = (256 * a.val + y.val) % 64; omega)
  · congr 1
    exact Fin.ext (by show 256 * a.val + (y.val / 64 * 64 + x.val) = (256 * a.val + y.val) / 64 * 64 + x.val; omega)

/-- The left halves of the weights side by side. -/
theorem both_left (wa wx : Vec Ideal S16x64x64 .f32) (a : Fin 4) (x : Fin 256) (y : Fin 512) (y' : Fin 256) (h : y.val = y'.val) :
    both wa wx (ix3 a x y) = diag wa (ix3 a x y') := by
  pointwise [both]
  rw [dif_pos (by omega)]
  congr 1
  exact ext3 rfl rfl h

/-- The right halves. -/
theorem both_right (wa wx : Vec Ideal S16x64x64 .f32) (a : Fin 4) (x : Fin 256) (y : Fin 512) (y' : Fin 256) (h : y.val = 256 + y'.val) :
    both wa wx (ix3 a x y) = diag wx (ix3 a x y') := by
  pointwise [both]
  rw [dif_neg (by omega)]
  congr 1
  exact ext3 rfl rfl (by show y.val - 256 = y'.val; omega)

variable (q : FVec Ideal S8x1024 .f32) (p : FVec Ideal S256x1024 .f32) (w : Vec Ideal S4x1024 .f32) (b : Vec Ideal S1x1024 .f32)
  (wa wx : Vec Ideal S16x64x64 .f32)

/-- One part of the products. -/
theorem part (M : Vec Ideal S4x256x512 .bf16) (W : Vec Ideal S16x64x64 .f32) (f : Fin 1024 → EReal) (a : Fin 4) (d : Fin 1024) (y : ℕ) (hy : y < 256) (hd : d.val = 256 * a.val + y)
    (g : Fin 256 → Fin 1024) (hg : ∀ x, (g x).val = 256 * a.val + x.val) (z : Fin 512)
    (hM : ∀ (x : Fin 256), M (ix3 a x z) = diag W (ix3 a x ⟨y, hy⟩)) :
    ∑ x : Fin 256, f (g x) * M (ix3 a x z)
      = ∑ x : Fin 64, W (ix3 (⟨d.val / 64, by omega⟩ : Fin 16) x (⟨d.val % 64, by omega⟩ : Fin 64)) * f ⟨d.val / 64 * 64 + x.val, by omega⟩ := by
  obtain ⟨d, hd'⟩ := d
  subst hd
  rw [← diag_sum f W a ⟨y, hy⟩]
  refine Finset.sum_congr rfl fun x _ => ?_
  rw [hM x, show g x = ⟨256 * a.val + x.val, by omega⟩ from Fin.ext (hg x)]

/-- The products for the decay's gate. -/
theorem preA_at (r : Fin 256) (d : Fin 1024) : preA q p w b (both wa wx) (ix2 r d)
    = ∑ x : Fin 64, wa (ix3 (⟨d.val / 64, by omega⟩ : Fin 16) x (⟨d.val % 64, by omega⟩ : Fin 64))
        * xsV q p w b (ix2 r (⟨d.val / 64 * 64 + x.val, by omega⟩ : Fin 1024)) := by
  have hd := d.isLt
  pointwise [preA, k0_pay19, k0_pay15, k0_pay16, k0_pay17, k0_pay18, k0_pay14, quarter]
  have hx : k0_pay12 (conv4a q p w b) (row 2 (by decide) w) (shift 7 (by decide) (cat q p)) = xsV q p w b := rfl
  simp only [hx]
  have hM := both_left wa wx
  generalize xsV q p w b = X
  generalize both wa wx = M at hM ⊢
  by_cases h0 : d.val < 256
  · rw [dif_pos h0]
    refine part M wa (fun i => X (ix2 r i)) 0 d d.val (by omega) (by show d.val = 0 + _; omega)
      (fun x => ⟨x.val, by omega⟩) (fun x => (Nat.zero_add _).symm) _ ?_
    exact fun x => hM 0 x _ _ rfl
  rw [dif_neg h0]
  by_cases h1 : (d.val - 256) < 256
  · rw [dif_pos h1]
    refine part M wa (fun i => X (ix2 r i)) 1 d (d.val - 256) (by omega) (by show d.val = 256 + _; omega)
      (fun x => ⟨256 + x.val, by omega⟩) (fun x => rfl) _ ?_
    exact fun x => hM 1 x _ _ rfl
  rw [dif_neg h1]
  by_cases h2 : (d.val - 256 - 256) < 256
  · rw [dif_pos h2]
    refine part M wa (fun i => X (ix2 r i)) 2 d (d.val - 256 - 256) (by omega) (by show d.val = 512 + _; omega)
      (fun x => ⟨512 + x.val, by omega⟩) (fun x => rfl) _ ?_
    exact fun x => hM 2 x _ _ rfl
  rw [dif_neg h2]
  refine part M wa (fun i => X (ix2 r i)) 3 d (d.val - 256 - 256 - 256) (by omega) (by show d.val = 768 + _; omega)
    (fun x => ⟨768 + x.val, by omega⟩) (fun x => rfl) _ ?_
  exact fun x => hM 3 x _ _ rfl

/-- The products for the input's gate. -/
theorem preX_at (r : Fin 256) (d : Fin 1024) : preX q p w b (both wa wx) (ix2 r d)
    = ∑ x : Fin 64, wx (ix3 (⟨d.val / 64, by omega⟩ : Fin 16) x (⟨d.val % 64, by omega⟩ : Fin 64))
        * xsV q p w b (ix2 r (⟨d.val / 64 * 64 + x.val, by omega⟩ : Fin 1024)) := by
  have hd := d.isLt
  pointwise [preX, k0_pay20, k0_pay15, k0_pay16, k0_pay17, k0_pay18, k0_pay14, quarter]
  have hx : k0_pay12 (conv4a q p w b) (row 2 (by decide) w) (shift 7 (by decide) (cat q p)) = xsV q p w b := rfl
  simp only [hx]
  have hM := both_right wa wx
  generalize xsV q p w b = X
  generalize both wa wx = M at hM ⊢
  by_cases h0 : d.val < 256
  · rw [dif_pos h0]
    refine part M wx (fun i => X (ix2 r i)) 0 d d.val (by omega) (by show d.val = 0 + _; omega)
      (fun x => ⟨x.val, by omega⟩) (fun x => (Nat.zero_add _).symm) _ ?_
    exact fun x => hM 0 x _ _ rfl
  rw [dif_neg h0]
  by_cases h1 : (d.val - 256) < 256
  · rw [dif_pos h1]
    refine part M wx (fun i => X (ix2 r i)) 1 d (d.val - 256) (by omega) (by show d.val = 256 + _; omega)
      (fun x => ⟨256 + x.val, by omega⟩) (fun x => rfl) _ ?_
    exact fun x => hM 1 x _ _ rfl
  rw [dif_neg h1]
  by_cases h2 : (d.val - 256 - 256) < 256
  · rw [dif_pos h2]
    refine part M wx (fun i => X (ix2 r i)) 2 d (d.val - 256 - 256) (by omega) (by show d.val = 512 + _; omega)
      (fun x => ⟨512 + x.val, by omega⟩) (fun x => rfl) _ ?_
    exact fun x => hM 2 x _ _ rfl
  rw [dif_neg h2]
  refine part M wx (fun i => X (ix2 r i)) 3 d (d.val - 256 - 256 - 256) (by omega) (by show d.val = 768 + _; omega)
    (fun x => ⟨768 + x.val, by omega⟩) (fun x => rfl) _ ?_
  exact fun x => hM 3 x _ _ rfl

end Cert.KernelIdeal.Blocks

end
-- ==== Proof.Mix.TilePoint.lean ====
module

public import proofs.«01_k».proof.Proof.Mix.Tile
public import proofs.«01_k».proof.Proof.Mix.Scalar
public import Idealize.ShloMosaic.Lib.Pipeline.ValueKit

@[expose] public section

set_option maxRecDepth 16384

noncomputable section

/-! # One tile's states, entry by entry

Three doublings give eight states from the state that enters a group, and the groups follow one another: a tile's rows are
the states of the affine recurrence. -/

namespace Cert.Mix

/-- States depend on the coefficients before them. -/
theorem states_congr {a a' u u' : ℕ → EReal} {c c' : EReal} (hc : c = c') : ∀ {n : ℕ}, (∀ i < n, a i = a' i) → (∀ i < n, u i = u' i) →
    states a u c n = states a' u' c' n
  | 0, _, _ => hc
  | n + 1, ha, hu => by
    unfold states
    rw [ha n (by omega), hu n (by omega), states_congr hc (fun i hi => ha i (by omega)) (fun i hi => hu i (by omega))]

/-- States from a later start. -/
theorem states_from (a u : ℕ → EReal) (c : EReal) (o : ℕ) : ∀ n, states (fun i => a (o + i)) (fun i => u (o + i)) (states a u c o) n = states a u c (o + n)
  | 0 => rfl
  | n + 1 => by
    show a (o + n) * states _ _ _ n + u (o + n) = a (o + n) * states a u c (o + n) + u (o + n)
    rw [states_from a u c o n]

end Cert.Mix

namespace Cert.KernelIdeal.Blocks

open Cert.KernelIdeal Cert.KernelIdeal.Gen Idealize.ShloMosaic Idealize.ShloMosaic.TcCoe Idealize.SL.Sem
open Idealize.ShloMosaic.Tactic
open Cert.Mix

/-- The eight rows of one group and channel. -/
def seqOf (A : FVec Ideal S32x8x1024 .f32) (g : Fin 32) (d : Fin 1024) (s : ℕ) : EReal :=
  if h : s < 8 then A (ix3 g (⟨s, h⟩ : Fin 8) d) else 0

/-- The rows from `1`, `2` and `4` on. -/
theorem from1 {α : Type} (x y : α) : ∀ s : Fin 8, Scalar.select (IntOp.cmpi CmpIPredicate.sge (BitVec.ofNat 32 s.val) 1#32) x y = if 1 ≤ s.val then x else y := by
  intro s
  have h : ∀ s : Fin 8, IntOp.cmpi CmpIPredicate.sge (BitVec.ofNat 32 s.val) 1#32 = if 1 ≤ s.val then 1#1 else 0#1 := by decide
  rw [h s]
  split <;> rfl

theorem from2 {α : Type} (x y : α) : ∀ s : Fin 8, Scalar.select (IntOp.cmpi CmpIPredicate.sge (BitVec.ofNat 32 s.val) 2#32) x y = if 2 ≤ s.val then x else y := by
  intro s
  have h : ∀ s : Fin 8, IntOp.cmpi CmpIPredicate.sge (BitVec.ofNat 32 s.val) 2#32 = if 2 ≤ s.val then 1#1 else 0#1 := by decide
  rw [h s]
  split <;> rfl

theorem from4 {α : Type} (x y : α) : ∀ s : Fin 8, Scalar.select (IntOp.cmpi CmpIPredicate.sge (BitVec.ofNat 32 s.val) 4#32) x y = if 4 ≤ s.val then x else y := by
  intro s
  have h : ∀ s : Fin 8, IntOp.cmpi CmpIPredicate.sge (BitVec.ofNat 32 s.val) 4#32 = if 4 ≤ s.val then 1#1 else 0#1 := by decide
  rw [h s]
  split <;> rfl

variable (vA xs vX : FVec Ideal S256x1024 .f32) (ba bx lam : Vec Ideal S1x1024 .f32)

/-- The accumulated coefficients of a group. -/
theorem a3_at (g : Fin 32) (s : Fin 8) (d : Fin 1024) : a3V vA ba lam (ix3 g s d)
    = dblA 4 (dblA 2 (dblA 1 (seqOf (k0_pay23 vA ba lam) g d))) s.val := by
  pointwise [a3V, k0_pay33, k0_pay31, k0_pay30, k0_pay29, k0_pay28, k0_pay26, k0_pay25]
  generalize k0_pay23 vA ba lam = A
  fin_cases s <;> simp [dblA, seqOf, IntOp.cmpi, Scalar.select]

/-- The states of a group entered with zero. -/
theorem u3_at (g : Fin 32) (s : Fin 8) (d : Fin 1024) : u3V xs vA vX ba bx lam (ix3 g s d)
    = dblU 4 (dblA 2 (dblA 1 (seqOf (k0_pay23 vA ba lam) g d))) (dblU 2 (dblA 1 (seqOf (k0_pay23 vA ba lam) g d))
        (dblU 1 (seqOf (k0_pay23 vA ba lam) g d) (seqOf (k0_pay24 xs vA vX ba bx lam) g d))) s.val := by
  pointwise [u3V, k0_pay32, k0_pay31, k0_pay30, k0_pay29, k0_pay28, k0_pay27, k0_pay26, k0_pay25]
  generalize k0_pay23 vA ba lam = A
  generalize k0_pay24 xs vA vX ba bx lam = U
  fin_cases s <;> simp [dblA, dblU, seqOf, IntOp.cmpi, Scalar.select]

/-- The 32 groups one under another. -/
theorem groups_at (p : (g : ℕ) → g < 32 → FVec Ideal S8x1024 .f32) (r : Fin 256) (d : Fin 1024) :
    groups p (ix2 r d) = p (r.val / 8) (by omega) (ix2 (⟨r.val % 8, by omega⟩ : Fin 8) d) := by
  unfold groups
  refine concatenate_ofFn_apply (t := S256x1024) (s₁ := S8x1024) (0 : Fin 2) (fun g : Fin 32 => p g.val g.isLt) _ rfl 8 rfl (ix2 r d) ⟨r.val / 8, by omega⟩ rfl
    (ix2 (⟨r.val % 8, by omega⟩ : Fin 8) d) rfl fun b hb => ?_
  match b with
  | ⟨0, _⟩ => exact absurd rfl hb
  | ⟨1, _⟩ => rfl

/-- One group's states, from the state that enters it. -/
theorem group_at (A U : ℕ → EReal) (T : ℕ) (d : Fin 1024) (h0 : ∀ i, 0 ≤ A i) (h1 : ∀ i, A i ≠ ⊤)
    (ha : ∀ (g : Fin 32) (s : Fin 8), k0_pay23 vA ba lam (ix3 g s d) = A (T + 8 * g.val + s.val))
    (hu : ∀ (g : Fin 32) (s : Fin 8), k0_pay24 xs vA vX ba bx lam (ix3 g s d) = U (T + 8 * g.val + s.val))
    (g : ℕ) (hg : g < 32) (c : FVec Ideal S1x1024 .f32) (hc : c (ix2 0 d) = states A U 0 (T + 8 * g)) (s : Fin 8) :
    hgOf (u3V xs vA vX ba bx lam) (a3V vA ba lam) g hg c (ix2 s d) = states A U 0 (T + 8 * g + s.val + 1) := by
  pointwise [hgOf]
  rw [u3_at, a3_at, hc]
  have e : ∀ i, 0 ≤ seqOf (k0_pay23 vA ba lam) ⟨g, hg⟩ d i ∧ seqOf (k0_pay23 vA ba lam) ⟨g, hg⟩ d i ≠ ⊤ := by
    intro i
    unfold seqOf
    split
    · rw [ha]; exact ⟨h0 _, h1 _⟩
    · exact ⟨le_refl _, EReal.zero_ne_top⟩
  rw [three_doublings _ _ _ (fun i => (e i).1) (fun i => (e i).2) s.val s.isLt, add_assoc (T + 8 * g) s.val 1, ← states_from A U 0 (T + 8 * g)]
  have hs := s.isLt
  refine states_congr rfl (fun i hi => ?_) (fun i hi => ?_)
  · unfold seqOf
    rw [dif_pos (by omega), ha]
  · unfold seqOf
    rw [dif_pos (by omega), hu]

/-- The states of a tile's groups, each entered with the last state of the one before. -/
theorem chain_at (A U : ℕ → EReal) (T : ℕ) (d : Fin 1024) (h0 : ∀ i, 0 ≤ A i) (h1 : ∀ i, A i ≠ ⊤)
    (ha : ∀ (g : Fin 32) (s : Fin 8), k0_pay23 vA ba lam (ix3 g s d) = A (T + 8 * g.val + s.val))
    (hu : ∀ (g : Fin 32) (s : Fin 8), k0_pay24 xs vA vX ba bx lam (ix3 g s d) = U (T + 8 * g.val + s.val))
    (c : FVec Ideal S1x1024 .f32) (hc : c (ix2 0 d) = states A U 0 T) :
    ∀ (g : ℕ) (hg : g < 32) (s : Fin 8), hAt (u3V xs vA vX ba bx lam) (a3V vA ba lam) c g hg (ix2 s d) = states A U 0 (T + 8 * g + s.val + 1)
  | 0, hg, s => group_at vA xs vX ba bx lam A U T d h0 h1 ha hu 0 hg c hc s
  | g + 1, hg, s => by
    refine group_at vA xs vX ba bx lam A U T d h0 h1 ha hu (g + 1) hg _ ?_ s
    pointwise [lastRow]
    exact chain_at A U T d h0 h1 ha hu c hc g (by omega) 7

/-- An entry of a tile under the rows kept from the tile before: a value some steps back. -/
theorem cat_lag (q : FVec Ideal S8x1024 .f32) (p : FVec Ideal S256x1024 .f32) (x : ℕ → EReal) (T : ℕ) (d : Fin 1024)
    (hq : ∀ s : Fin 8, q (ix2 s d) = lag x (8 - s.val) T) (hp : ∀ r : Fin 256, p (ix2 r d) = x (T + r.val))
    (r : Fin 256) (e j : ℕ) (he : e + j = 8 + r.val) (h : e < 264) : cat (F := Ideal) q p (ix2 ⟨e, h⟩ d) = lag x j (T + r.val) := by
  have hr := r.isLt
  by_cases h8 : e < 8
  · refine (show cat (F := Ideal) q p (ix2 ⟨e, h⟩ d) = q (ix2 ⟨e, h8⟩ d) from dif_pos h8).trans ?_
    rw [hq]
    unfold lag
    show (if 8 - e ≤ T then x (T - (8 - e)) else 0) = _
    by_cases h2 : 8 - e ≤ T
    · rw [if_pos h2, if_pos (by omega)]
      congr 1; omega
    · rw [if_neg h2, if_neg (by omega)]
  · refine (show cat (F := Ideal) q p (ix2 ⟨e, h⟩ d) = p (ix2 ⟨e - 8, by omega⟩ d) from dif_neg h8).trans ?_
    rw [hp]
    unfold lag
    rw [if_pos (by omega)]
    congr 1
    show T + (e - 8) = _
    omega

end Cert.KernelIdeal.Blocks

end
-- ==== Proof.Mix.Join.lean ====
module

public import proofs.«01_k».proof.Proof.Mix.RefPoint
public import proofs.«01_k».proof.Proof.Mix.HostPoint
public import proofs.«01_k».proof.Proof.Mix.TilePoint

@[expose] public section

set_option maxRecDepth 16384

noncomputable section

/-! # A tile's values are the reference's

A tile covers the times `T`, …, `T + 255` of a sequence `b`. Under the rows kept from the tile before, its convolution,
gates, decays, inputs and states are those of the reference at these times. -/

namespace Cert.KernelIdeal.Blocks

open Cert.KernelIdeal Cert.KernelIdeal.Gen Idealize.ShloMosaic Idealize.ShloMosaic.TcCoe Idealize.SL.Sem
open Idealize.ShloMosaic.Tactic
open Cert.Mix
open Cert.ReferenceIdeal.Loop (col prod dec inp hid)
open Cert.ReferenceIdeal.Step (A_main_v33 A_main_v40 A_main_v52 A_main_v62 A_main_v75 A_main_v76)

variable (P : Vec Ideal S16384x19968 .bf16) (W : Vec Ideal S4x1024 .f32) (B : Vec Ideal S1024 .f32) (Wa : Vec Ideal S16x64x64 .f32)
  (Ba : Vec Ideal S1024 .f32) (Wx : Vec Ideal S16x64x64 .f32) (Bx : Vec Ideal S1024 .f32) (La : Vec Ideal S1024 .f32)

/-- The summands of the two convolutions in the reference's order. -/
theorem reorder5 (x y z u v : EReal) : v + u + x + y + z = x + y + z + u + v := by abel

theorem reorder3 (x y z : EReal) : z + x + y = x + y + z := by abel

/-- A row moved by an offset. -/
theorem shift_at (o : ℕ) (ho : o ≤ 8) (X : Vec Ideal S264x1024 .f32) (r : Fin 256) (d : Fin 1024) :
    shift o ho X (ix2 r d) = X (ix2 (⟨o + r.val, by omega⟩ : Fin 264) d) := rfl

/-- One row's entry. -/
theorem row_at {n : ℕ} (k : ℕ) (hk : k < n) (w : (⟨2, ![n, 1024]⟩ : Shape).Idx → Elt Ideal .f32) (d : Fin 1024) :
    row k hk w (ix2 0 d) = w (ix2 (⟨k, hk⟩ : Fin n) d) := rfl

/-- A tile of the columns the recurrence convolves, the rows above it and the parameters' blocks. -/
structure Tied (b : Fin 8) (T : ℕ) (q : FVec Ideal S8x1024 .f32) (p : FVec Ideal S256x1024 .f32) (bl ba bx lam : Vec Ideal S1x1024 .f32) : Prop where
  inside : T + 256 ≤ 2048
  above : ∀ (s : Fin 8) (d : Fin 1024), q (ix2 s d) = lag (col P b 17408 (by omega) d) (8 - s.val) T
  tile : ∀ (r : Fin 256) (d : Fin 1024), p (ix2 r d) = col P b 17408 (by omega) d (T + r.val)
  bias : ∀ d : Fin 1024, bl (ix2 0 d) = B (ix1 d)
  biasA : ∀ d : Fin 1024, ba (ix2 0 d) = Ba (ix1 d)
  biasX : ∀ d : Fin 1024, bx (ix2 0 d) = Bx (ix1 d)
  lambda : ∀ d : Fin 1024, lam (ix2 0 d) = La (ix1 d)

variable {P W B Wa Ba Wx Bx La}
variable {b : Fin 8} {T : ℕ} {q : FVec Ideal S8x1024 .f32} {p : FVec Ideal S256x1024 .f32} {bl ba bx lam : Vec Ideal S1x1024 .f32}
variable (h : Tied P B Ba Bx La b T q p bl ba bx lam)
include h

/-- The convolution of four taps. -/
theorem xs_at (r : Fin 256) (d : Fin 1024) : xsV q p W bl (ix2 r d)
    = A_main_v33 P W B Wa Ba Wx Bx La (ix3 b (⟨T + r.val, by have := h.inside; omega⟩ : Fin 2048) d) := by
  have hr := r.isLt
  rw [Cert.ReferenceIdeal.Loop.conv_at]
  pointwise [xsV, conv4a, k0_pay12, k0_pay11]
  simp only [shift_at, row_at]
  have hc := fun e j he hlt => cat_lag q p _ T d (fun s => h.above s d) (fun r => h.tile r d) r e j he hlt
  rw [hc (5 + r.val) 3 (by omega) (by omega), hc (6 + r.val) 2 (by omega) (by omega), hc (7 + r.val) 1 (by omega) (by omega), h.bias, h.tile]
  exact reorder5 _ _ _ _ _

/-- The decay's gate before its logistic. -/
theorem gateA_tile (r : Fin 256) (d : Fin 1024) : preA q p W bl (both Wa Wx) (ix2 r d) + ba (ix2 0 d)
    = A_main_v40 P W B Wa Ba Wx Bx La (ix3 b (⟨T + r.val, by have := h.inside; omega⟩ : Fin 2048) d) := by
  rw [Cert.ReferenceIdeal.Loop.gateA_at, preA_at, h.biasA]
  congr 1
  exact Finset.sum_congr rfl fun x _ => congrArg _ (xs_at h r _)

/-- The input's gate before its logistic. -/
theorem gateX_tile (r : Fin 256) (d : Fin 1024) : preX q p W bl (both Wa Wx) (ix2 r d) + bx (ix2 0 d)
    = A_main_v52 P W B Wa Ba Wx Bx La (ix3 b (⟨T + r.val, by have := h.inside; omega⟩ : Fin 2048) d) := by
  rw [Cert.ReferenceIdeal.Loop.gateX_at, preX_at, h.biasX]
  congr 1
  exact Finset.sum_congr rfl fun x _ => congrArg _ (xs_at h r _)

/-- The logarithm of the decay. -/
theorem log_tile (r : Fin 256) (d : Fin 1024) : k0_pay21 (preA q p W bl (both Wa Wx)) ba lam (ix2 r d)
    = Cert.ReferenceIdeal.Loop.logdec P W B Wa Ba Wx Bx La b (⟨T + r.val, by have := h.inside; omega⟩ : Fin 2048) d := by
  unfold Cert.ReferenceIdeal.Loop.logdec
  rw [Cert.ReferenceIdeal.Loop.soft_at]
  have hg := gateA_tile (W := W) (Wa := Wa) (Wx := Wx) h r d
  generalize preA q p W bl (both Wa Wx) = v at hg ⊢
  pointwise [k0_pay21]
  rw [hg, h.lambda]

/-- A group's row as a time. -/
theorem time (g : Fin 32) (s : Fin 8) (e : (T + (g.val * 8 + s.val)) < 2048) (e' : T + 8 * g.val + s.val < 2048) :
    (⟨T + (g.val * 8 + s.val), e⟩ : Fin 2048) = ⟨T + 8 * g.val + s.val, e'⟩ := Fin.ext (by show T + (g.val * 8 + s.val) = T + 8 * g.val + s.val; omega)

/-- The decays of a tile. -/
theorem decay_tile (g : Fin 32) (s : Fin 8) (d : Fin 1024) : k0_pay23 (preA q p W bl (both Wa Wx)) ba lam (ix3 g s d)
    = dec P W B Wa Ba Wx Bx La b d (T + 8 * g.val + s.val) := by
  have hT := h.inside
  have hl := log_tile (W := W) (Wa := Wa) (Wx := Wx) h ⟨g.val * 8 + s.val, by omega⟩ d
  unfold dec
  rw [dif_pos (by omega), Cert.ReferenceIdeal.Loop.decay_at]
  pointwise [k0_pay23, k0_pay22]
  rw [hl]
  congr 2
  exact time h g s _ _

/-- The inputs of a tile. -/
theorem input_tile (g : Fin 32) (s : Fin 8) (d : Fin 1024) :
    k0_pay24 (xsV q p W bl) (preA q p W bl (both Wa Wx)) (preX q p W bl (both Wa Wx)) ba bx lam (ix3 g s d)
    = inp P W B Wa Ba Wx Bx La b d (T + 8 * g.val + s.val) := by
  have hT := h.inside
  have hl := log_tile (W := W) (Wa := Wa) (Wx := Wx) h ⟨g.val * 8 + s.val, by omega⟩ d
  have hx := xs_at (W := W) (Wa := Wa) (Wx := Wx) h ⟨g.val * 8 + s.val, by omega⟩ d
  have hg := gateX_tile (W := W) (Wa := Wa) (Wx := Wx) h ⟨g.val * 8 + s.val, by omega⟩ d
  unfold inp
  rw [dif_pos (by omega), Cert.ReferenceIdeal.Loop.input_at]
  generalize xsV q p W bl = X at hx ⊢
  generalize preX q p W bl (both Wa Wx) = v at hg ⊢
  pointwise [k0_pay24, k0_pay22]
  rw [hl, hx, hg, decay_eq]
  have ht := time h g s (by omega) (by omega)
  rw [ht]

/-- The states of a tile. -/
theorem states_tile (c : FVec Ideal S1x1024 .f32) (hc : ∀ d : Fin 1024, c (ix2 0 d) = hid P W B Wa Ba Wx Bx La b d T)
    (g : ℕ) (hg : g < 32) (s : Fin 8) (d : Fin 1024) :
    hV q p W bl (both Wa Wx) ba bx lam c g hg (ix2 s d) = hid P W B Wa Ba Wx Bx La b d (T + 8 * g + s.val + 1) :=
  chain_at _ _ _ ba bx lam _ _ T d (Cert.ReferenceIdeal.Loop.dec_nonneg P W B Wa Ba Wx Bx La b d)
    (Cert.ReferenceIdeal.Loop.dec_ne_top P W B Wa Ba Wx Bx La b d) (fun g s => decay_tile h g s d) (fun g s => input_tile h g s d) c (hc d) g hg s

/-- The second output of a tile. -/
theorem outD_at (c : FVec Ideal S1x1024 .f32) (hc : ∀ d : Fin 1024, c (ix2 0 d) = hid P W B Wa Ba Wx Bx La b d T)
    (x5 : Vec Ideal S256x1024 .bf16) (h5 : ∀ (r : Fin 256) (d : Fin 1024), x5 (ix2 r d) = col P b 18432 (by omega) d (T + r.val))
    (r : Fin 256) (d : Fin 1024) : outD q p W bl (both Wa Wx) ba bx lam c x5 (ix2 r d)
    = hid P W B Wa Ba Wx Bx La b d (T + r.val + 1)
      * (col P b 18432 (by omega) d (T + r.val) * Ideal.logistic (col P b 18432 (by omega) d (T + r.val))) := by
  have hs := states_tile (W := W) (Wa := Wa) (Wx := Wx) h c hc
  unfold outD
  generalize hV q p W bl (both Wa Wx) ba bx lam c = H at hs ⊢
  pointwise [k0_pay2]
  rw [groups_at, hs, h5]
  congr 2
  show T + 8 * (r.val / 8) + r.val % 8 + 1 = _
  omega

/-- The state a tile leaves. -/
theorem outH_at (c : FVec Ideal S1x1024 .f32) (hc : ∀ d : Fin 1024, c (ix2 0 d) = hid P W B Wa Ba Wx Bx La b d T)
    (s : Fin 8) (d : Fin 1024) : outH q p W bl (both Wa Wx) ba bx lam c (ix2 s d) = hid P W B Wa Ba Wx Bx La b d (T + 256) := by
  have hs := states_tile (W := W) (Wa := Wa) (Wx := Wx) h c hc 31 (by omega) 7 d
  unfold outH
  generalize hV q p W bl (both Wa Wx) ba bx lam c = H at hs ⊢
  pointwise [lastRow]
  exact hs

omit h in
/-- The first output of a tile. -/
theorem outC_at (hT : T + 256 ≤ 2048) (q : FVec Ideal S8x1024 .f32) (x0 x1 x2 x3 : Vec Ideal S256x1024 .bf16) (w : Vec Ideal S3x1024 .f32)
    (hq : ∀ (s : Fin 8) (d : Fin 1024), q (ix2 s d) = lag (prod P b d) (8 - s.val) T)
    (h0 : ∀ (r : Fin 256) (d : Fin 1024), x0 (ix2 r d) = col P b 13312 (by omega) d (T + r.val))
    (h1 : ∀ (r : Fin 256) (d : Fin 1024), x1 (ix2 r d) = col P b 14336 (by omega) d (T + r.val))
    (h2 : ∀ (r : Fin 256) (d : Fin 1024), x2 (ix2 r d) = col P b 15360 (by omega) d (T + r.val))
    (h3 : ∀ (r : Fin 256) (d : Fin 1024), x3 (ix2 r d) = col P b 16384 (by omega) d (T + r.val))
    (r : Fin 256) (d : Fin 1024) : outC q x0 x1 x2 x3 w (ix2 r d)
    = col P b 13312 (by omega) d (T + r.val) * (w (ix2 0 d) * lag (prod P b d) 2 (T + r.val) + w (ix2 1 d) * lag (prod P b d) 1 (T + r.val)
        + w (ix2 2 d) * prod P b d (T + r.val))
      * (col P b 16384 (by omega) d (T + r.val) * Ideal.logistic (col P b 16384 (by omega) d (T + r.val))) := by
  have hr := r.isLt
  have hp : ∀ r : Fin 256, k0_pay6 x1 x2 (ix2 r d) = prod P b d (T + r.val) := by
    intro r
    pointwise [k0_pay6]
    rw [h1, h2]; rfl
  unfold outC
  generalize k0_pay6 x1 x2 = p at hp ⊢
  have hc := fun e j he hlt => cat_lag q p _ T d (fun s => hq s d) hp r e j he hlt
  pointwise [k0_pay9, conv3, k0_pay7]
  simp only [shift_at, row_at]
  rw [hc (6 + r.val) 2 (by omega) (by omega), hc (7 + r.val) 1 (by omega) (by omega), h0, h3, hp]
  congr 2
  exact reorder3 _ _ _

end Cert.KernelIdeal.Blocks

end
-- ==== Proof.Mix.Grid.lean ====
module

public import proofs.«01_k».proof.Proof.Mix.Join
public import proofs.«01_k».proof.Proof.Mix.PointsA
public import proofs.«01_k».proof.Proof.Mix.PointsB
public import proofs.«01_k».proof.Proof.Gen.KernelIdeal.Value

@[expose] public section

set_option maxRecDepth 16384

noncomputable section

/-! # All tiles

By induction over the grid's points: each tile's outputs are the reference's, and what it leaves in the scratch buffers is
what the next tile of the sequence takes up. -/

namespace Cert.KernelIdeal.Blocks

open Cert.KernelIdeal Cert.KernelIdeal.Gen Idealize.ShloMosaic Idealize.ShloMosaic.TcCoe Idealize.SL.Sem
open Idealize.ShloMosaic.Tactic
open Cert.Mix
open Cert.ReferenceIdeal.Loop (col prod dec inp hid)
open Cert.KernelIdeal.Value (stAt0 stAt0_A stAt0_B outsAt0_zero outsAt0_succ outsAt0_sweep junk0)

variable (m : (ℓ : Loc nD τ sig) → Buf (Elt Ideal) ℓ)

/-- The blocks of every window at a point. -/
theorem idx : ∀ t : Fin cfg0.N, win0_0.index t = ![t.val, 13] ∧ win0_1.index t = ![t.val, 14] ∧ win0_2.index t = ![t.val, 15]
    ∧ win0_3.index t = ![t.val, 16] ∧ win0_4.index t = ![t.val, 17] ∧ win0_5.index t = ![t.val, 18] ∧ win0_6.index t = ![0, 0]
    ∧ win0_7.index t = ![0, 0] ∧ win0_8.index t = ![0, 0] ∧ win0_9.index t = ![0, 0, 0] ∧ win0_10.index t = ![0, 0]
    ∧ win0_11.index t = ![0, 0] ∧ win0_12.index t = ![0, 0] :=
  (by decide +kernel : ∀ t : Fin grid0.N, _)

/-- A point's sequence. -/
def seq (t : Fin cfg0.N) : Fin 8 := ⟨t.val / 8, by have h : t.val < 64 := t.isLt; omega⟩

/-- A point's first time. -/
def start (t : Fin cfg0.N) : ℕ := 256 * (t.val % 8)

theorem start_le (t : Fin cfg0.N) : start t + 256 ≤ 2048 := by unfold start; omega

/-- An entry of the projections at a point's row, as a value in time. -/
theorem col_at (P : Vec Ideal S16384x19968 .bf16) (t : Fin cfg0.N) (o : ℕ) (ho : o + 1024 ≤ 19968) (r : Fin 256) (d : Fin 1024) (i : Fin 16384) (j : Fin 19968)
    (hi : i.val = 256 * t.val + r.val) (hj : j.val = o + d.val) : P (ix2 i j) = col P (seq t) o ho d (start t + r.val) := by
  have := start_le t
  have ht : t.val < 64 := t.isLt
  have hr := r.isLt
  unfold col
  rw [dif_pos (by omega)]
  congr 1
  exact ext2 (by show i.val = t.val / 8 * 2048 + (256 * (t.val % 8) + r.val); omega) (by show j.val = o + d.val; omega)

theorem block0 (c : Dev nD) (t : Fin cfg0.N) (r : Fin 256) (d : Fin 1024) :
    X0_0 m c t (ix2 r d) = col (m ((c.tc : Thread nD τ).loc main_arg0)) (seq t) 13312 (by omega) d (start t + r.val) := by
  have ht : t.val < 64 := t.isLt
  rw [← col_at _ t 13312 (by omega) r d ⟨256 * t.val + r.val, by omega⟩ ⟨13312 + d.val, by omega⟩ rfl rfl]
  unfold X0_0 Pipeline.Window.fill
  rw [dif_pos (moved0_0 t (ix2 r d))]
  blk_simp [iblk, idx t]
  rw [V_main_arg0]
  blk_ext [idx t]

theorem block1 (c : Dev nD) (t : Fin cfg0.N) (r : Fin 256) (d : Fin 1024) :
    X0_1 m c t (ix2 r d) = col (m ((c.tc : Thread nD τ).loc main_arg0)) (seq t) 14336 (by omega) d (start t + r.val) := by
  have ht : t.val < 64 := t.isLt
  rw [← col_at _ t 14336 (by omega) r d ⟨256 * t.val + r.val, by omega⟩ ⟨14336 + d.val, by omega⟩ rfl rfl]
  unfold X0_1 Pipeline.Window.fill
  rw [dif_pos (moved0_1 t (ix2 r d))]
  blk_simp [iblk, idx t]
  rw [V_main_arg0]
  blk_ext [idx t]

theorem block2 (c : Dev nD) (t : Fin cfg0.N) (r : Fin 256) (d : Fin 1024) :
    X0_2 m c t (ix2 r d) = col (m ((c.tc : Thread nD τ).loc main_arg0)) (seq t) 15360 (by omega) d (start t + r.val) := by
  have ht : t.val < 64 := t.isLt
  rw [← col_at _ t 15360 (by omega) r d ⟨256 * t.val + r.val, by omega⟩ ⟨15360 + d.val, by omega⟩ rfl rfl]
  unfold X0_2 Pipeline.Window.fill
  rw [dif_pos (moved0_2 t (ix2 r d))]
  blk_simp [iblk, idx t]
  rw [V_main_arg0]
  blk_ext [idx t]

theorem block3 (c : Dev nD) (t : Fin cfg0.N) (r : Fin 256) (d : Fin 1024) :
    X0_3 m c t (ix2 r d) = col (m ((c.tc : Thread nD τ).loc main_arg0)) (seq t) 16384 (by omega) d (start t + r.val) := by
  have ht : t.val < 64 := t.isLt
  rw [← col_at _ t 16384 (by omega) r d ⟨256 * t.val + r.val, by omega⟩ ⟨16384 + d.val, by omega⟩ rfl rfl]
  unfold X0_3 Pipeline.Window.fill
  rw [dif_pos (moved0_3 t (ix2 r d))]
  blk_simp [iblk, idx t]
  rw [V_main_arg0]
  blk_ext [idx t]

theorem block4 (c : Dev nD) (t : Fin cfg0.N) (r : Fin 256) (d : Fin 1024) :
    X0_4 m c t (ix2 r d) = col (m ((c.tc : Thread nD τ).loc main_arg0)) (seq t) 17408 (by omega) d (start t + r.val) := by
  have ht : t.val < 64 := t.isLt
  rw [← col_at _ t 17408 (by omega) r d ⟨256 * t.val + r.val, by omega⟩ ⟨17408 + d.val, by omega⟩ rfl rfl]
  unfold X0_4 Pipeline.Window.fill
  rw [dif_pos (moved0_4 t (ix2 r d))]
  blk_simp [iblk, idx t]
  rw [V_main_arg0]
  blk_ext [idx t]

theorem block5 (c : Dev nD) (t : Fin cfg0.N) (r : Fin 256) (d : Fin 1024) :
    X0_5 m c t (ix2 r d) = col (m ((c.tc : Thread nD τ).loc main_arg0)) (seq t) 18432 (by omega) d (start t + r.val) := by
  have ht : t.val < 64 := t.isLt
  rw [← col_at _ t 18432 (by omega) r d ⟨256 * t.val + r.val, by omega⟩ ⟨18432 + d.val, by omega⟩ rfl rfl]
  unfold X0_5 Pipeline.Window.fill
  rw [dif_pos (moved0_5 t (ix2 r d))]
  blk_simp [iblk, idx t]
  rw [V_main_arg0]
  blk_ext [idx t]

/-- The parameters' blocks are the parameters. -/
theorem block6 (c : Dev nD) (t : Fin cfg0.N) : iblk m c 6 t = m ((c.tc : Thread nD τ).loc main_arg1) := by
  funext y
  blk_simp [iblk, idx t]
  rw [V_main_arg1]
  blk_ext [idx t]

theorem block7 (c : Dev nD) (t : Fin cfg0.N) : iblk m c 7 t = m ((c.tc : Thread nD τ).loc main_arg2) := by
  funext y
  blk_simp [iblk, idx t]
  rw [V_main_arg2]
  blk_ext [idx t]

theorem block9 (c : Dev nD) (t : Fin cfg0.N) : iblk m c 9 t = both (m ((c.tc : Thread nD τ).loc main_arg4)) (m ((c.tc : Thread nD τ).loc main_arg6)) := by
  funext y
  blk_simp [iblk, idx t]
  rw [V_both]
  blk_ext [idx t]

theorem block8 (c : Dev nD) (t : Fin cfg0.N) (d : Fin 1024) : iblk m c 8 t (ix2 0 d) = m ((c.tc : Thread nD τ).loc main_arg3) (ix1 d) := by
  blk_point [iblk, V, idx t]

theorem block10 (c : Dev nD) (t : Fin cfg0.N) (d : Fin 1024) : iblk m c 10 t (ix2 0 d) = m ((c.tc : Thread nD τ).loc main_arg5) (ix1 d) := by
  blk_point [iblk, V, idx t]

theorem block11 (c : Dev nD) (t : Fin cfg0.N) (d : Fin 1024) : iblk m c 11 t (ix2 0 d) = m ((c.tc : Thread nD τ).loc main_arg7) (ix1 d) := by
  blk_point [iblk, V, idx t]

theorem block12 (c : Dev nD) (t : Fin cfg0.N) (d : Fin 1024) : iblk m c 12 t (ix2 0 d) = m ((c.tc : Thread nD τ).loc main_arg8) (ix1 d) := by
  blk_point [iblk, V, idx t]

/-- The projections. -/
abbrev pj (c : Dev nD) : Vec Ideal S16384x19968 .bf16 := m ((c.tc : Thread nD τ).loc main_arg0)

/-- The short convolution's taps. -/
abbrev w3 (c : Dev nD) : FVec Ideal S3x1024 .f32 := m ((c.tc : Thread nD τ).loc main_arg1)

/-- The reference's states of the arguments. -/
abbrev hd (c : Dev nD) (b : Fin 8) (d : Fin 1024) : ℕ → EReal :=
  hid (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) b d

/-- The first output's entry at a time. -/
def first (c : Dev nD) (b : Fin 8) (d : Fin 1024) (t : ℕ) : EReal :=
  col (pj m c) b 13312 (by omega) d t * (w3 m c (ix2 0 d) * lag (prod (pj m c) b d) 2 t
      + w3 m c (ix2 1 d) * lag (prod (pj m c) b d) 1 t
      + w3 m c (ix2 2 d) * prod (pj m c) b d t)
    * (col (pj m c) b 16384 (by omega) d t * Ideal.logistic (col (pj m c) b 16384 (by omega) d t))

/-- The second output's entry at a time. -/
def second (c : Dev nD) (b : Fin 8) (d : Fin 1024) (t : ℕ) : EReal :=
  hd m c b d (t + 1) * (col (pj m c) b 18432 (by omega) d t * Ideal.logistic (col (pj m c) b 18432 (by omega) d t))

/-- What a point leaves, in terms of the reference. -/
structure Left (c : Dev nD) (t : Fin cfg0.N) (acc : Vec Ideal S256x1024 .bf16 × Vec Ideal S256x1024 .bf16 × Vec Ideal S264x1024 .f32 × Vec Ideal S264x1024 .f32 × Vec Ideal S8x1024 .f32) : Prop where
  out1 : ∀ (r : Fin 256) (d : Fin 1024), acc.1 (ix2 r d) = first m c (seq t) d (start t + r.val)
  out2 : ∀ (r : Fin 256) (d : Fin 1024), acc.2.1 (ix2 r d) = second m c (seq t) d (start t + r.val)
  rows1 : ∀ (s : Fin 8) (d : Fin 1024), top acc.2.2.1 (ix2 s d) = prod (pj m c) (seq t) d (start t + (248 + s.val))
  rows2 : ∀ (s : Fin 8) (d : Fin 1024), top acc.2.2.2.1 (ix2 s d) = col (pj m c) (seq t) 17408 (by omega) d (start t + (248 + s.val))
  state : ∀ (s : Fin 8) (d : Fin 1024), acc.2.2.2.2 (ix2 s d) = hd m c (seq t) d (start t + 256)

/-- The kept rows are the tile's last ones. -/
theorem top_cat (p : Vec Ideal S256x1024 .f32) (s : Fin 8) (d : Fin 1024) : top (cat (tail p) p) (ix2 s d) = p (ix2 (⟨248 + s.val, by omega⟩ : Fin 256) d) := by
  show cat (tail p) p (ix2 (⟨s.val, by omega⟩ : Fin 264) d) = _
  exact (dif_pos s.isLt).trans rfl

/-- One point, from what it finds. -/
theorem left (c : Dev nD) (t : Fin cfg0.N) (q0 q1 : FVec Ideal S8x1024 .f32) (c0 : FVec Ideal S1x1024 .f32)
    (hq0 : ∀ (s : Fin 8) (d : Fin 1024), q0 (ix2 s d) = lag (prod (pj m c) (seq t) d) (8 - s.val) (start t))
    (hq1 : ∀ (s : Fin 8) (d : Fin 1024), q1 (ix2 s d) = lag (col (pj m c) (seq t) 17408 (by omega) d) (8 - s.val) (start t))
    (hc : ∀ d : Fin 1024, c0 (ix2 0 d) = hd m c (seq t) d (start t)) :
    Left m c t (outC q0 (X0_0 m c t) (X0_1 m c t) (X0_2 m c t) (X0_3 m c t) (iblk m c 6 t),
      outD q1 (k0_pay10 (X0_4 m c t)) (iblk m c 7 t) (iblk m c 8 t) (iblk m c 9 t) (iblk m c 10 t) (iblk m c 11 t) (iblk m c 12 t) c0 (X0_5 m c t),
      cat (tail (k0_pay6 (X0_1 m c t) (X0_2 m c t))) (k0_pay6 (X0_1 m c t) (X0_2 m c t)),
      cat (tail (k0_pay10 (X0_4 m c t))) (k0_pay10 (X0_4 m c t)),
      outH q1 (k0_pay10 (X0_4 m c t)) (iblk m c 7 t) (iblk m c 8 t) (iblk m c 9 t) (iblk m c 10 t) (iblk m c 11 t) (iblk m c 12 t) c0) := by
  have hp : ∀ (r : Fin 256) (d : Fin 1024), k0_pay10 (X0_4 m c t) (ix2 r d) = col (pj m c) (seq t) 17408 (by omega) d (start t + r.val) := by
    intro r d
    pointwise [k0_pay10]
    exact block4 m c t r d
  have hp6 : ∀ (r : Fin 256) (d : Fin 1024), k0_pay6 (X0_1 m c t) (X0_2 m c t) (ix2 r d) = prod (pj m c) (seq t) d (start t + r.val) := by
    intro r d
    pointwise [k0_pay6]
    rw [block1, block2]; rfl
  have ht : Tied (pj m c) (m ((c.tc : Thread nD τ).loc main_arg3)) (m ((c.tc : Thread nD τ).loc main_arg5)) (m ((c.tc : Thread nD τ).loc main_arg7))
      (m ((c.tc : Thread nD τ).loc main_arg8)) (seq t) (start t) q1 (k0_pay10 (X0_4 m c t)) (iblk m c 8 t) (iblk m c 10 t) (iblk m c 11 t) (iblk m c 12 t) :=
    ⟨start_le t, hq1, hp, block8 m c t, block10 m c t, block11 m c t, block12 m c t⟩
  rw [block6, block7, block9]
  refine ⟨fun r d => ?_, fun r d => ?_, fun s d => ?_, fun s d => ?_, fun s d => ?_⟩
  · exact outC_at (start_le t) q0 _ _ _ _ _ hq0 (block0 m c t) (block1 m c t) (block2 m c t) (block3 m c t) r d
  · exact outD_at ht c0 hc _ (block5 m c t) r d
  · exact (top_cat _ s d).trans (hp6 _ d)
  · exact (top_cat _ s d).trans (hp _ d)
  · exact outH_at ht c0 hc s d

/-- A sequence's first point. -/
theorem left_A (c : Dev nD) (t : Fin cfg0.N) (h0 : t.val % 8 = 0) (acc) : Left m c t (stAt0 m c t.val t.isLt acc) := by
  rw [stAt0_A m c t acc h0, out0_A_13_eq, out0_A_14_eq, sout0_A_0_eq, sout0_A_1_eq, sout0_A_2_eq]
  have hs : start t = 0 := by unfold start; omega
  refine left m c t _ _ _ (fun s d => ?_) (fun s d => ?_) (fun d => ?_)
  · unfold lag
    rw [hs, if_neg (by omega)]
    pointwise [k0_pay3]
  · unfold lag
    rw [hs, if_neg (by omega)]
    pointwise [k0_pay4]
  · rw [hs]
    show k0_pay5 (F := Ideal) (ix2 0 d) = 0
    pointwise [k0_pay5]

/-- A later point, from what the one before left. -/
theorem left_B (c : Dev nD) (t t' : Fin cfg0.N) (ht : t.val = t'.val + 1) (h0 : ¬t.val % 8 = 0) (acc) (h : Left m c t' acc) :
    Left m c t (stAt0 m c t.val t.isLt acc) := by
  rw [stAt0_B m c t acc h0, out0_B_13_eq, out0_B_14_eq, sout0_B_0_eq, sout0_B_1_eq, sout0_B_2_eq]
  have hb : seq t = seq t' := Fin.ext (by show t.val / 8 = t'.val / 8; omega)
  have hs : start t = start t' + 256 := by unfold start; omega
  refine left m c t _ _ _ (fun s d => ?_) (fun s d => ?_) (fun d => ?_)
  · rw [h.rows1, hb]
    unfold lag
    rw [hs, if_pos (by omega)]
    congr 1; omega
  · rw [h.rows2, hb]
    unfold lag
    rw [hs, if_pos (by omega)]
    congr 1; omega
  · rw [hs, hb]
    exact h.state 0 d

/-- Every point leaves what the reference has. -/
theorem left_all (c : Dev nD) : ∀ (n : ℕ) (hn : n < cfg0.N), Left m c ⟨n, hn⟩ (outsAt0 m c n hn)
  | 0, hn => by
    rw [outsAt0_zero]
    exact left_A m c ⟨0, hn⟩ rfl _
  | n + 1, hn => by
    rw [outsAt0_succ]
    by_cases h0 : (n + 1) % 8 = 0
    · exact left_A m c ⟨n + 1, hn⟩ h0 _
    · exact left_B m c ⟨n + 1, hn⟩ ⟨n, Nat.lt_of_succ_lt hn⟩ rfl h0 _ (left_all c n _)

/-- The first result, entry by entry. -/
theorem G13_at (c : Dev nD) (b : Fin 8) (t : Fin 2048) (d : Fin 1024) :
    Cert.KernelIdeal.Value.G13 m c (ix2 (⟨b.val * 2048 + t.val, by omega⟩ : Fin 16384) d) = first m c b d t.val := by
  have hb := b.isLt
  have ht := t.isLt
  have hd := d.isLt
  have hN : cfg0.N = 64 := N_0
  have hpt : Cert.KernelIdeal.Value.pt13Of (ix2 (⟨b.val * 2048 + t.val, by omega⟩ : Fin 16384) d) = (b.val * 2048 + t.val) / 256 := by
    show 1 * ((b.val * 2048 + t.val) / 256 - 0) + 1 * (d.val / 1024 - 0) = _
    omega
  have hlt : Cert.KernelIdeal.Value.pt13Of (ix2 (⟨b.val * 2048 + t.val, by omega⟩ : Fin 16384) d) < cfg0.N := by rw [hpt, hN]; omega
  unfold Cert.KernelIdeal.Value.G13
  rw [dif_pos hlt, ← outsAt0_sweep m c _ hlt]
  refine Eq.trans (congrArg _ (ext2 ?_ ?_)) ((left_all m c _ hlt).out1 ⟨(b.val * 2048 + t.val) % 256, by omega⟩ d |>.trans ?_)
  · rfl
  · show d.val % 1024 = d.val; omega
  · have e1 : seq ⟨_, hlt⟩ = b :=
      Fin.ext (by show Cert.KernelIdeal.Value.pt13Of _ / 8 = _; rw [hpt]; omega)
    rw [e1]
    congr 1
    show 256 * (Cert.KernelIdeal.Value.pt13Of _ % 8) + (b.val * 2048 + t.val) % 256 = t.val
    rw [hpt]; omega

/-- The second result, entry by entry. -/
theorem G14_at (c : Dev nD) (b : Fin 8) (t : Fin 2048) (d : Fin 1024) :
    Cert.KernelIdeal.Value.G14 m c (ix2 (⟨b.val * 2048 + t.val, by omega⟩ : Fin 16384) d) = second m c b d t.val := by
  have hb := b.isLt
  have ht := t.isLt
  have hd := d.isLt
  have hN : cfg0.N = 64 := N_0
  have hpt : Cert.KernelIdeal.Value.pt14Of (ix2 (⟨b.val * 2048 + t.val, by omega⟩ : Fin 16384) d) = (b.val * 2048 + t.val) / 256 := by
    show 1 * ((b.val * 2048 + t.val) / 256 - 0) + 1 * (d.val / 1024 - 0) = _
    omega
  have hlt : Cert.KernelIdeal.Value.pt14Of (ix2 (⟨b.val * 2048 + t.val, by omega⟩ : Fin 16384) d) < cfg0.N := by rw [hpt, hN]; omega
  unfold Cert.KernelIdeal.Value.G14
  rw [dif_pos hlt, ← outsAt0_sweep m c _ hlt]
  refine Eq.trans (congrArg _ (ext2 ?_ ?_)) ((left_all m c _ hlt).out2 ⟨(b.val * 2048 + t.val) % 256, by omega⟩ d |>.trans ?_)
  · rfl
  · show d.val % 1024 = d.val; omega
  · have e1 : seq ⟨_, hlt⟩ = b :=
      Fin.ext (by show Cert.KernelIdeal.Value.pt14Of _ / 8 = _; rw [hpt]; omega)
    rw [e1]
    congr 1
    show 256 * (Cert.KernelIdeal.Value.pt14Of _ % 8) + (b.val * 2048 + t.val) % 256 = t.val
    rw [hpt]; omega

end Cert.KernelIdeal.Blocks

end
-- ==== Proof.Mix.Final.lean ====
module

public import proofs.«01_k».proof.Proof.Mix.Grid

@[expose] public section

noncomputable section

/-! # The two results

The kernel's results are the reference's, of equal arguments: the first is the gated convolution, the second the
recurrence's states, gated. -/

namespace Cert.KernelIdeal.Blocks

open Cert.KernelIdeal Cert.KernelIdeal.Gen Idealize.ShloMosaic Idealize.ShloMosaic.TcCoe Idealize.SL.Sem
open Idealize.ShloMosaic.Tactic
open Cert.ReferenceIdeal.Loop (hidM st first_at scan_at st_hs)
open Cert.ReferenceIdeal.Step (State R_main_v135 R_main_v137)

variable (m : (ℓ : Loc nD τ sig) → Buf (Elt Ideal) ℓ)

/-- A row of the results is a sequence and a time. -/
theorem row_split (i : S16384x1024.Idx) : ∃ (b : Fin 8) (t : Fin 2048) (d : Fin 1024), i = ix2 (⟨b.val * 2048 + t.val, by omega⟩ : Fin 16384) d := by
  have h0 : (i 0).val < 16384 := (i 0).isLt
  exact ⟨⟨(i 0).val / 2048, by omega⟩, ⟨(i 0).val % 2048, by omega⟩, i 1,
    ext2 (by show (i 0).val = (i 0).val / 2048 * 2048 + (i 0).val % 2048; omega) rfl⟩

/-- The first result. -/
theorem final_conv (c : Dev nD) (s : State Ideal) :
    Cert.KernelIdeal.Value.G13 m c = R_main_v135 s (m ((c.tc : Thread nD τ).loc main_arg0)) (m ((c.tc : Thread nD τ).loc main_arg1)) := by
  funext i
  obtain ⟨b, t, d, rfl⟩ := row_split i
  rw [G13_at m c b t d]
  exact (first_at _ _ s b t d).symm

/-- The second result, of a state that holds the recurrence's states. -/
theorem final_scan (c : Dev nD) (s : State Ideal) (hs : ∀ (b : Fin 8) (t : Fin 2048) (d : Fin 1024), s.main_v78_4 (ix3 t b d) = hd m c b d (t.val + 1)) :
    Cert.KernelIdeal.Value.G14 m c = R_main_v137 s (m ((c.tc : Thread nD τ).loc main_arg0)) := by
  funext i
  obtain ⟨b, t, d, rfl⟩ := row_split i
  rw [G14_at m c b t d]
  refine Eq.trans ?_ (scan_at _ s b t d).symm
  rw [hs]
  rfl

end Cert.KernelIdeal.Blocks

end
-- ==== Proof.Proj.BodyI.lean ====
/- What the projection kernel does at one point of its grid. -/
module

public import proofs.«01_k».proof.Proof.Gen.Kernel2Ideal.Frame
public import proofs.«01_k».proof.Proof.Gen.Kernel2Ideal.Skeleton
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One point of the projection's grid

At the first point of a row of tiles the kernel normalises the rows' inputs into a buffer it keeps, and multiplies them
by the narrow weights; at every point it multiplies the kept rows by the point's block of the wide weights. -/

/-- A load of a whole array of rank 2. -/
theorem ld_zero2 {n k : ℕ} {e : EltTy} (h) (x : (⟨2, ![n, k]⟩ : Shape).Idx → Elt F e) :
    View.ld x (Rect.unit (s := (⟨2, ![n, k]⟩ : Shape)) ![0, 0] ![n, k] h) = x :=
  View.ld_unit_zero (funext fun a => by match a with | ⟨0, _⟩ => rfl | ⟨1, _⟩ => rfl) h x

/-- A load of a whole array of rank 3. -/
theorem ld_zero3 {n k l : ℕ} {e : EltTy} (h) (x : (⟨3, ![n, k, l]⟩ : Shape).Idx → Elt F e) :
    View.ld x (Rect.unit (s := (⟨3, ![n, k, l]⟩ : Shape)) ![0, 0, 0] ![n, k, l] h) = x :=
  View.ld_unit_zero (funext fun a => by match a with | ⟨0, _⟩ => rfl | ⟨1, _⟩ => rfl | ⟨2, _⟩ => rfl) h x

/-- A store over a whole array of rank 2 leaves what it stored. -/
theorem stored2 {n k : ℕ} {e : EltTy} (v : View sig .tc .vmem (⟨2, ![n, k]⟩ : Shape) e) (f : v.ty.Contents (Elt F)) (h)
    (w : (⟨2, ![n, k]⟩ : Shape).Idx → Elt F e) (L : List (View.Piece (Elt F) (⟨2, ![n, k]⟩ : Shape) e)) :
    v.read (Elt F) (v.writes (Elt F) f ((⟨Rect.unit (s := (⟨2, ![n, k]⟩ : Shape)) ![0, 0] ![n, k] h, w⟩ : View.Piece (Elt F) _ e) :: L)) = w := by
  have hz : (![0, 0] : Fin (⟨2, ![n, k]⟩ : Shape).rank → ℕ) = fun _ => 0 := funext fun a => by match a with | ⟨0, _⟩ => rfl | ⟨1, _⟩ => rfl
  rw [View.read_writes_eq_canon]
  · exact View.canon_cons_unit_zero hz h w L
  · intro y
    exact ⟨_, List.mem_cons_self, View.mem_set_unit_zero hz h y⟩

set_option maxHeartbeats 1000000 in
/-- The body at the first point of a row of tiles: the kept rows are the normalised inputs, and both results come from them. -/
theorem run_first (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole)
    (arg5 : Memref sig .tc .vmem S1x2048x1536 .bf16) (harg5 : arg5.IsWhole) (arg6 : Memref sig .tc .vmem S1x2048x128 .bf16) (harg6 : arg6.IsWhole) (arg7 : Memref sig .tc .vmem S1024x1536 .bf16) (harg7 : arg7.IsWhole)
    (arg8 : Memref sig .tc .vmem S1024x128 .f32) (harg8 : arg8.IsWhole) (arg9 : Memref sig .tc .vmem S1024x2048 .bf16) (harg9 : arg9.IsWhole)
    (hc : k0_cond1 i = 1#1) (x0 : Vec F S1024x2048 .f32) (x1 : Vec F S1x1x2048 .f32) (x2 : Vec F S1x1x2048 .f32) (x3 : Vec F S1x2048x1536 .bf16) (x4 : Vec F S1x2048x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay4 (k0_pay2 x0 x2 x1) x3) ∗ owns (c : Thread nD τ) arg8 fullShare (k0_pay3 x0 x2 x1 x4)
          ∗ owns (c : Thread nD τ) arg9 fullShare (k0_pay2 x0 x2 x1)) -∗ K ⟨⟩))
      ⊢ wp frame (wpE (defs₀ (F := F)) Variants.none c none) E (cc0_inproj i arg2 harg2 arg3 harg3 arg4 harg4 arg5 harg5 arg6 harg6 arg7 harg7 arg8 harg8 arg9 harg9) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    sl_unfold_words
    simp only [stored2, View.readCov_cons_toLoadRect, View.readAt_eq_ld, Memref.IsWhole.read_unread, ld_zero2, ld_zero3]
  isplitl [H6]
  · iexists _; isplitr
    swap; · iexact H6
    ipureintro
    sl_unfold_words
    simp only [stored2, View.readCov_cons_toLoadRect, View.readAt_eq_ld, Memref.IsWhole.read_unread, ld_zero2, ld_zero3]
  iexists _; isplitr
  swap; · iexact HS0
  ipureintro
  sl_unfold_words
  simp only [stored2, View.readCov_cons_toLoadRect, View.readAt_eq_ld, Memref.IsWhole.read_unread, ld_zero2, ld_zero3]

set_option maxHeartbeats 1000000 in
/-- The body at any other point: the kept rows and the narrow result stay, the wide result comes from the kept rows. -/
theorem run_next (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole)
    (arg5 : Memref sig .tc .vmem S1x2048x1536 .bf16) (harg5 : arg5.IsWhole) (arg6 : Memref sig .tc .vmem S1x2048x128 .bf16) (harg6 : arg6.IsWhole) (arg7 : Memref sig .tc .vmem S1024x1536 .bf16) (harg7 : arg7.IsWhole)
    (arg8 : Memref sig .tc .vmem S1024x128 .f32) (harg8 : arg8.IsWhole) (arg9 : Memref sig .tc .vmem S1024x2048 .bf16) (harg9 : arg9.IsWhole)
    (hc : ¬k0_cond1 i = 1#1) (x0 : Vec F S1024x2048 .f32) (x1 : Vec F S1x1x2048 .f32) (x2 : Vec F S1x1x2048 .f32) (x3 : Vec F S1x2048x1536 .bf16) (x4 : Vec F S1x2048x128 .bf16) (x6 : Vec F S1024x128 .f32) (xs : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6 ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay4 xs x3) ∗ owns (c : Thread nD τ) arg8 fullShare x6
          ∗ owns (c : Thread nD τ) arg9 fullShare xs) -∗ K ⟨⟩))
      ⊢ wp frame (wpE (defs₀ (F := F)) Variants.none c none) E (cc0_inproj i arg2 harg2 arg3 harg3 arg4 harg4 arg5 harg5 arg6 harg6 arg7 harg7 arg8 harg8 arg9 harg9) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4
  obtain rfl := harg8.eq_unread hf6; obtain rfl := harg9.eq_unread hfs0
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    sl_unfold_words
    simp only [stored2, View.readCov_cons_toLoadRect, View.readAt_eq_ld, Memref.IsWhole.read_unread, ld_zero2, ld_zero3]
  isplitl [H6]
  · iexists _; isplitr; · ipureintro; exact harg8.read_unread _
    iexact H6
  iexists _; isplitr; · ipureintro; exact harg9.read_unread _
  iexact HS0

end Cert.Kernel2Ideal.Proj

end
-- ==== Proof.Proj.GridI.lean ====
/- The projection kernel over its whole grid: what its buffers hold after each point, and what its arrays hold at the end. -/
module

public import proofs.«01_k».proof.Proof.Proj.BodyI
public import proofs.«01_k».proof.Proof.Gen.Kernel2Ideal.Frame
public import proofs.«01_k».proof.Proof.Gen.Kernel2Ideal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The projection over its grid

A row of tiles is 13 points. The kept rows and the narrow result are made at its first point; since the blocks they are made
of do not move within the row, both are a function of the point alone. -/

theorem lt_208 (t : Fin cfg0.N) : t.val < 208 := lt_of_lt_of_eq t.isLt (show cfg0.N = 208 from N_0)

/-- The body's condition: the point is the first of a row of tiles. -/
theorem first_iff : ∀ t : Fin cfg0.N, k0_cond1 (grid0.coords t) = 1#1 ↔ t.val % 13 = 0 :=
  (fun t => by
    have ht : t.val < 208 := Nat.lt_of_lt_of_eq t.isLt N_0
    have e0 : (grid0.coords t 0).val = t.val / 13 % 16 := Pipeline.Grid.coords_val t 0 (by decide) rfl
    have e1 : (grid0.coords t 1).val = t.val / 1 % 13 := Pipeline.Grid.coords_val t 1 (by decide) rfl
    simp only [k0_cond1, e0, e1]
    word_cmp
   : ∀ t : Fin grid0.N, k0_cond1 (grid0.coords t) = 1#1 ↔ t.val % 13 = 0)

/-- The normalised rows of the point. -/
def rows (c : Dev nD) (t : Fin cfg0.N) : Vec F S1024x2048 .bf16 := k0_pay2 (iblk m c 0 t) (iblk m c 2 t) (iblk m c 1 t)
/-- The narrow product of the point's rows. -/
def narrow (c : Dev nD) (t : Fin cfg0.N) : Vec F S1024x128 .f32 := k0_pay3 (iblk m c 0 t) (iblk m c 2 t) (iblk m c 1 t) (iblk m c 4 t)
/-- The wide product of the point's rows with the point's block of weights. -/
def wide (c : Dev nD) (t : Fin cfg0.N) : Vec F S1024x1536 .bf16 := k0_pay4 (rows m c t) (iblk m c 3 t)

/-- What the kernel keeps between points: after point `n` the normalised rows of point `n`. -/
def keeps (c : Dev nD) : (n : ℕ) → n ≤ cfg0.N → sProp 𝕄
  | 0, _ => Pipeline.ΦA spec0 c
  | n + 1, hn => iprop(iprop(owns (c : Thread nD τ) (Memref.whole cc0_scratch0) fullShare (rows m c ⟨n, hn⟩)) ∗ (∃ r, prngReg c r))

/-- The buffers after each point: the inputs' blocks stay, the results are the point's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => wide m c t
    | ⟨6, _⟩ => narrow m c t
  Φ t := keeps m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = wide m c t := by dsimp only [dats]
theorem after_6 (c : Dev nD) (t : Fin cfg0.N) : (dats m 0 c).after 6 t = narrow m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! Within a row of tiles these inputs' blocks do not move. -/

theorem index_0 : ∀ t : Fin cfg0.N, ¬t.val % 13 = 0 → (cfg0.win 0).index t = (cfg0.win 0).index ⟨t.val - 1, Nat.lt_of_le_of_lt (Nat.sub_le _ _) t.isLt⟩ := by decide +kernel
theorem fetched_0 (c : Dev nD) (t : Fin cfg0.N) (d) : (dats m 0 c).fetched 0 t d = iblk m c 0 t := by
  unfold Dat.fetched Dat.blockOf iblk; rw [A_eq]; try rfl
theorem same_0 (c : Dev nD) (t : Fin cfg0.N) (h : ¬t.val % 13 = 0) :
    (iblk m c 0 t : Vec F S1024x2048 .f32) = iblk m c 0 ⟨t.val - 1, Nat.lt_of_le_of_lt (Nat.sub_le _ _) t.isLt⟩ :=
  (fetched_0 m c t (iblk m c 0 t)).symm.trans (((dats m 0 c).fetched_congr 0 (index_0 t h) rfl _).trans (fetched_0 m c _ _))
theorem index_1 : ∀ t : Fin cfg0.N, ¬t.val % 13 = 0 → (cfg0.win 1).index t = (cfg0.win 1).index ⟨t.val - 1, Nat.lt_of_le_of_lt (Nat.sub_le _ _) t.isLt⟩ := by decide +kernel
theorem fetched_1 (c : Dev nD) (t : Fin cfg0.N) (d) : (dats m 0 c).fetched 1 t d = iblk m c 1 t := by
  unfold Dat.fetched Dat.blockOf iblk; rw [A_eq]; try rfl
theorem same_1 (c : Dev nD) (t : Fin cfg0.N) (h : ¬t.val % 13 = 0) :
    (iblk m c 1 t : Vec F S1x1x2048 .f32) = iblk m c 1 ⟨t.val - 1, Nat.lt_of_le_of_lt (Nat.sub_le _ _) t.isLt⟩ :=
  (fetched_1 m c t (iblk m c 1 t)).symm.trans (((dats m 0 c).fetched_congr 1 (index_1 t h) rfl _).trans (fetched_1 m c _ _))
theorem index_2 : ∀ t : Fin cfg0.N, ¬t.val % 13 = 0 → (cfg0.win 2).index t = (cfg0.win 2).index ⟨t.val - 1, Nat.lt_of_le_of_lt (Nat.sub_le _ _) t.isLt⟩ := by decide +kernel
theorem fetched_2 (c : Dev nD) (t : Fin cfg0.N) (d) : (dats m 0 c).fetched 2 t d = iblk m c 2 t := by
  unfold Dat.fetched Dat.blockOf iblk; rw [A_eq]; try rfl
theorem same_2 (c : Dev nD) (t : Fin cfg0.N) (h : ¬t.val % 13 = 0) :
    (iblk m c 2 t : Vec F S1x1x2048 .f32) = iblk m c 2 ⟨t.val - 1, Nat.lt_of_le_of_lt (Nat.sub_le _ _) t.isLt⟩ :=
  (fetched_2 m c t (iblk m c 2 t)).symm.trans (((dats m 0 c).fetched_congr 2 (index_2 t h) rfl _).trans (fetched_2 m c _ _))
theorem index_4 : ∀ t : Fin cfg0.N, ¬t.val % 13 = 0 → (cfg0.win 4).index t = (cfg0.win 4).index ⟨t.val - 1, Nat.lt_of_le_of_lt (Nat.sub_le _ _) t.isLt⟩ := by decide +kernel
theorem fetched_4 (c : Dev nD) (t : Fin cfg0.N) (d) : (dats m 0 c).fetched 4 t d = iblk m c 4 t := by
  unfold Dat.fetched Dat.blockOf iblk; rw [A_eq]; try rfl
theorem same_4 (c : Dev nD) (t : Fin cfg0.N) (h : ¬t.val % 13 = 0) :
    (iblk m c 4 t : Vec F S1x2048x128 .bf16) = iblk m c 4 ⟨t.val - 1, Nat.lt_of_le_of_lt (Nat.sub_le _ _) t.isLt⟩ :=
  (fetched_4 m c t (iblk m c 4 t)).symm.trans (((dats m 0 c).fetched_congr 4 (index_4 t h) rfl _).trans (fetched_4 m c _ _))

/-- The kept rows are the same within a row of tiles, -/
theorem rows_same (c : Dev nD) (t : Fin cfg0.N) (h : ¬t.val % 13 = 0) :
    rows m c t = rows m c ⟨t.val - 1, Nat.lt_of_le_of_lt (Nat.sub_le _ _) t.isLt⟩ := by
  unfold rows; rw [same_0 m c t h, same_1 m c t h, same_2 m c t h]

/-- and so is the narrow product. -/
theorem narrow_same (c : Dev nD) (t : Fin cfg0.N) (h : ¬t.val % 13 = 0) :
    narrow m c t = narrow m c ⟨t.val - 1, Nat.lt_of_le_of_lt (Nat.sub_le _ _) t.isLt⟩ := by
  unfold narrow; rw [same_0 m c t h, same_1 m c t h, same_2 m c t h, same_4 m c t h]

theorem live_6 : ∀ t : Fin cfg0.N, t.val % 13 = 0 → cfg0.idle 6 (grid0.coords t) = false := by decide +kernel
theorem idle_6 : ∀ t : Fin cfg0.N, ¬t.val % 13 = 0 → cfg0.idle 6 (grid0.coords t) = true := by decide +kernel

/-- At which points the narrow result's buffer holds nothing of its row yet: the first of each row. -/
def freshAt (n : ℕ) : Bool := n % 13 == 0
theorem freshAt_step : ∀ t : Fin cfg0.N,
    freshAt (t.val + 1) = ((cfg0.win 6).flush t || (cfg0.idle 6 (cfg0.grid.coords t) && freshAt t.val)) := by decide +kernel
theorem fresh_eq (t : Fin cfg0.N) : cfg0.fresh 6 t.val = freshAt t.val :=
  Pipeline.Cfg.fresh_tab cfg0 6 freshAt rfl freshAt_step t.val (Nat.le_of_lt t.isLt)

/-- At a point that is not the first of its row the narrow result's buffer already holds the row's narrow product. -/
theorem before_6 (c : Dev nD) (t : Fin cfg0.N) (h : ¬t.val % 13 = 0) (d) : (dats m 0 c).before 6 t d = narrow m c t := by
  rw [Dat.before_out_traj _ 6 rfl (fun _ _ => rfl) (fun t _ hi _ => by
      rw [after_6, after_6]
      by_cases h0 : t.val % 13 = 0
      · rw [live_6 t h0] at hi; exact absurd hi Bool.false_ne_true
      · exact narrow_same m c t h0) t.val t rfl d,
    if_neg (by rw [fresh_eq]; unfold freshAt; simpa using h), after_6]
  exact (narrow_same m c t h).symm

theorem keeps_zero (c : Dev nD) (n : ℕ) (h : n ≤ cfg0.N) (hz : n = 0) : keeps m c n h = Pipeline.ΦA spec0 c := by
  subst hz; rfl
theorem keeps_succ (c : Dev nD) (t : Fin cfg0.N) :
    (dats m 0 c).Φ t.succ = iprop(iprop(owns (c : Thread nD τ) (Memref.whole cc0_scratch0) fullShare (rows m c t)) ∗ (∃ r, prngReg c r)) := rfl
theorem keeps_pos (c : Dev nD) (n : ℕ) (h : n ≤ cfg0.N) (hz : n ≠ 0) :
    keeps m c n h = iprop(iprop(owns (c : Thread nD τ) (Memref.whole cc0_scratch0) fullShare (rows m c ⟨n - 1, by omega⟩)) ∗ (∃ r, prngReg c r)) := by
  cases n with
  | zero => exact absurd rfl hz
  | succ n => rfl
theorem start (c : Dev nD) (t : Fin cfg0.N) : (dats m 0 c).Φ t.castSucc = keeps m c t.val (Nat.le_of_lt t.isLt) := by
  dsimp only [dats]; exact Pipeline.Dat.Φ_castSucc (keeps m c) t

theorem kept_any (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

/-- Whatever the kernel keeps at a point, it keeps something. -/
theorem keeps_some (c : Dev nD) (n : ℕ) (h : n ≤ cfg0.N) :
    keeps m c n h ⊢ iprop(iprop((∃ d, owns (c : Thread nD τ) (Memref.whole cc0_scratch0) fullShare d)) ∗ (∃ r, prngReg c r)) := by
  by_cases hz : n = 0
  · rw [keeps_zero m c n h hz, kept_any]
  · rw [keeps_pos m c n h hz]
    iintro ⟨HS0, Hg⟩
    isplitl [HS0]
    · iexists _; iexact HS0
    iexact Hg

/-- What the body is called with at a point, -/
def pre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

/-- and what it returns. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves_0 (c : Dev nD) (t : Fin cfg0.N) :
    (dats m 0 c).leavesExact 0 t = owns (c : Thread nD τ) (win0_0.stage (cfg0.slots t 0)) fullShare (iblk m c 0 t) := by
  rw [← after_0]
theorem leaves_1 (c : Dev nD) (t : Fin cfg0.N) :
    (dats m 0 c).leavesExact 1 t = owns (c : Thread nD τ) (win0_1.stage (cfg0.slots t 1)) fullShare (iblk m c 1 t) := by
  rw [← after_1]
theorem leaves_2 (c : Dev nD) (t : Fin cfg0.N) :
    (dats m 0 c).leavesExact 2 t = owns (c : Thread nD τ) (win0_2.stage (cfg0.slots t 2)) fullShare (iblk m c 2 t) := by
  rw [← after_2]
theorem leaves_3 (c : Dev nD) (t : Fin cfg0.N) :
    (dats m 0 c).leavesExact 3 t = owns (c : Thread nD τ) (win0_3.stage (cfg0.slots t 3)) fullShare (iblk m c 3 t) := by
  rw [← after_3]
theorem leaves_4 (c : Dev nD) (t : Fin cfg0.N) :
    (dats m 0 c).leavesExact 4 t = owns (c : Thread nD τ) (win0_4.stage (cfg0.slots t 4)) fullShare (iblk m c 4 t) := by
  rw [← after_4]
theorem leaves_5 (c : Dev nD) (t : Fin cfg0.N) :
    (dats m 0 c).leavesExact 5 t = owns (c : Thread nD τ) (win0_5.stage (cfg0.slots t 5)) fullShare (wide m c t) := by
  rw [← after_5]
theorem leaves_6 (c : Dev nD) (t : Fin cfg0.N) :
    owns (c : Thread nD τ) (win0_6.stage (cfg0.slots t 6)) fullShare (narrow m c t) ⊢ (dats m 0 c).leavesExact 6 t := by
  by_cases h : t.val % 13 = 0
  · rw [show (dats m 0 c).leavesExact 6 t = owns (c : Thread nD τ) (win0_6.stage (cfg0.slots t 6)) fullShare ((dats m 0 c).after 6 t) from by
      unfold Dat.leavesExact; rw [live_6 t h], after_6]
  · cases hf : (cfg0.win 6).flush t with
    | false =>
      rw [(dats m 0 c).leavesExact_idle 6 t (idle_6 t h) hf]
      iintro H
      iexists (narrow m c t)
      rw [before_6 m c t h]
      iexact H
    | true =>
      rw [show (dats m 0 c).leavesExact 6 t = owns (c : Thread nD τ) (win0_6.stage (cfg0.slots t 6)) fullShare ((dats m 0 c).after 6 t) from by
        unfold Dat.leavesExact; rw [idle_6 t h, hf], after_6]

set_option maxHeartbeats 6400000 in
/-- The body at any point. -/
theorem sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, leaves_0, leaves_1, leaves_2, leaves_3, leaves_4, leaves_5]
  rw [show (dats m 0 c).owesAt () t.succ = (dats m 0 c).owesAt () t.castSucc from rfl, keeps_succ, start]
  by_cases h0 : t.val % 13 = 0
  · iintro ⟨HΦ, Ho, ⟨%d0, H0⟩, ⟨%d1, H1⟩, ⟨%d2, H2⟩, ⟨%d3, H3⟩, ⟨%d4, H4⟩, ⟨%d5, H5⟩, ⟨%d6, H6⟩⟩
    ihave Hs := keeps_some m c t.val (Nat.le_of_lt t.isLt) $$ HΦ
    icases Hs with ⟨HS0, Hg⟩
    iapply (run_first c (grid0.coords t) _ _ _ _ _ _ _ _ _ _ _ _ _ _ _ _ ((first_iff t).mpr h0) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    iintro ⟨H0, H1, H2, H3, H4, H5, H6, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_6 m c t)
    iexact H6
  · have hz : t.val ≠ 0 := fun h => h0 (by rw [h])
    rw [keeps_pos m c _ _ hz, ← rows_same m c t h0]
    simp only [before_6 m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply (run_next c (grid0.coords t) _ _ _ _ _ _ _ _ _ _ _ _ _ _ _ _ (fun h => h0 ((first_iff t).mp h)) (iblk m c 0 t) (iblk m c 1 t) (iblk m c 2 t) (iblk m c 3 t) (iblk m c 4 t) (narrow m c t) (rows m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    iintro ⟨H0, H1, H2, H3, H4, H5, H6, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_6 m c t)
    iexact H6

theorem table_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, table_row]
  exact triple_restated (sound m c t) rfl .rfl fun _ => .rfl

theorem enters (c : Dev nD) : Pipeline.ΦA spec0 c ⊢ (dats m 0 c).Φ 0 := by
  rw [show (dats m 0 c).Φ 0 = keeps m c 0 (Nat.zero_le _) from rfl, keeps_zero m c 0 _ rfl]
  try exact Idealize.SL.BI.Entails.refl _

theorem leaves (c : Dev nD) : (dats m 0 c).Φ (Fin.last cfg0.N) ⊢ Pipeline.ΦA spec0 c := by
  rw [kept_any]
  exact keeps_some m c cfg0.N (Nat.le_refl _)

set_option backward.isDefEq.respectTransparency.types false in
/-- The run: it ends, its arrays are what the points left, its semaphores are at rest. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enters m) (hout := leaves m)

theorem run_ends : θ_run defs (onTc (τ := τ) (main (F := F))) (s₀ m ρ) (Pipeline.FramePost cfgs (dats m) 0 (V m)) :=
  (θ_run defs _ _).mono (fun _ h => h.1) (run_quiet m ρ)

/-- The arguments end as they began, and the semaphores at rest. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_ends m ρ)) ((θ_run defs _ _).mono (fun _ h => h.2) (run_quiet m ρ))

/-- The run with both results named. -/
theorem run_results : θ_run defs (onTc (τ := τ) (main (F := F))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 5, (h c).1 6,
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c)))⟩)
    (run_ends m ρ)

end Cert.Kernel2Ideal.Proj

end
-- ==== Proof.Proj.Ref.lean ====
/- What the reference of the projection computes: the modulated rows multiplied by the wide and by the narrow weights,
   each stage as one array of its arguments. -/
module

public import proofs.«01_k».proof.Proof.Gen.Reference2Ideal.Run
public import Idealize.ShloMosaic.Lib.Pipeline.ValueKit.Point
public import Idealize.ShloMosaic.Lib.ValueIdx

@[expose] public section

set_option maxRecDepth 16384

noncomputable section

namespace Cert.Reference2Ideal.Proj

open Idealize.ShloMosaic Idealize.ShloMosaic.TcCoe Idealize.ShloMosaic.Tactic Idealize.SL.Sem
open Cert.Reference2Ideal Cert.Reference2Ideal.Gen Cert.Reference2Ideal.Value

variable {F : FTy → Type} [FloatOps F]

/-- The modulated input: each row times one plus its scale, plus its shift. -/
def modulated (A0 : Vec F S16384x2048 .f32) (A1 : Vec F S8x1x6144 .f32) : Vec F S8x2048x2048 .f32 :=
  (addf (mulf (shapeCast _ A0 shapeCasts_S16384x2048_S8x2048x2048) (broadcastInDim S8x2048x2048 ![0, 1, 2] bcast_S8x1x2048_S8x2048x2048_0_1_2 (addf (broadcastInDim S8x1x2048 ![] bcast_S_S8x1x2048 (constant S_ .f32 0x3F800000#32)) (broadcastInDim S8x1x2048 ![0, 2] bcast_S8x2048_S8x1x2048_0_2 (extractStridedSlice S8x2048 ![0, 2048] (shapeCast _ A1 shapeCasts_S8x1x6144_S8x6144) slices_S8x6144_S8x2048_0_2048))))) (broadcastInDim S8x2048x2048 ![0, 1, 2] bcast_S8x1x2048_S8x2048x2048_0_1_2 (broadcastInDim S8x1x2048 ![0, 2] bcast_S8x2048_S8x1x2048_0_2 (extractStridedSlice S8x2048 ![0, 0] (shapeCast _ A1 shapeCasts_S8x1x6144_S8x6144) slices_S8x6144_S8x2048_0_0))))

/-- The modulated rows times the wide weights, laid out by rows. -/
def wide (H : Vec F S8x2048x2048 .f32) (A2 : Vec F S2x2048x19968 .bf16) : Vec F S16384x19968 .bf16 :=
  truncf .bf16 (shapeCast _ (Host.dotGeneral dot_S8x2048x2048_S2048x19968_S8x2048x19968_2_0_01_1_n_n none H (extf .f32 (shapeCast _ (extractStridedSlice S1x2048x19968 ![0, 0, 0] A2 slices_S2x2048x19968_S1x2048x19968_0_0_0) shapeCasts_S1x2048x19968_S2048x19968) bitsLt_bf16_f32)) shapeCasts_S8x2048x19968_S16384x19968) bitsLt_bf16_f32

/-- The modulated rows times the narrow weights, laid out by rows. -/
def narrow (H : Vec F S8x2048x2048 .f32) (A3 : Vec F S2x2048x128 .bf16) : Vec F S16384x128 .f32 :=
  shapeCast _ (Host.dotGeneral dot_S8x2048x2048_S2048x128_S8x2048x128_2_0_01_1_n_n none H (extf .f32 (shapeCast _ (extractStridedSlice S1x2048x128 ![0, 0, 0] A3 slices_S2x2048x128_S1x2048x128_0_0_0) shapeCasts_S1x2048x128_S2048x128) bitsLt_bf16_f32)) shapeCasts_S8x2048x128_S16384x128

/-- The reference ends with these two arrays, its arguments unchanged. -/
theorem run_named (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22) = wide (modulated (m ((c.tc : Thread nD τ).loc main_arg0)) (m ((c.tc : Thread nD τ).loc main_arg1))) (m ((c.tc : Thread nD τ).loc main_arg2))
      ∧ r.2.mem ((c.tc : Thread nD τ).loc main_v23) = narrow (modulated (m ((c.tc : Thread nD τ).loc main_arg0)) (m ((c.tc : Thread nD τ).loc main_arg1))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  unfold wide narrow modulated
  exact run m ρ

end Cert.Reference2Ideal.Proj

end
-- ==== Proof.Proj.Final.lean ====
/- The projection's two results are the modulated rows times the wide and times the narrow weights. -/
module

public import proofs.«01_k».proof.Proof.Proj.GridI
public import proofs.«01_k».proof.Proof.Proj.Ref
public import Idealize.ShloMosaic.Lib.Pipeline.ValueKit

@[expose] public section

set_option maxRecDepth 16384

noncomputable section

namespace Cert.Kernel2Ideal.Proj

open Cert.Kernel2Ideal Cert.Kernel2Ideal.Gen Idealize.ShloMosaic Idealize.ShloMosaic.TcCoe Idealize.SL.Sem
open Idealize.ShloMosaic.Tactic

variable (m : (ℓ : Loc nD τ sig) → Buf (Elt Ideal) ℓ)

/-- The blocks of every window at a point. -/
theorem idx : ∀ t : Fin cfg0.N, win0_0.index t = ![t.val / 13, 0] ∧ win0_1.index t = ![t.val / 26, 0, 0] ∧ win0_2.index t = ![t.val / 26, 0, 1]
    ∧ win0_3.index t = ![0, 0, t.val % 13] ∧ win0_4.index t = ![0, 0, 0] ∧ win0_5.index t = ![t.val / 13, t.val % 13] ∧ win0_6.index t = ![t.val / 13, 0] :=
  (by decide +kernel : ∀ t : Fin grid0.N, _)

/-- The modulated input of the whole layer. -/
abbrev modR (m : (ℓ : Loc nD τ sig) → Buf (Elt Ideal) ℓ) (c : Dev nD) : Vec Ideal Cert.Reference2Ideal.S8x2048x2048 .f32 :=
  Cert.Reference2Ideal.Proj.modulated (m ((c.tc : Thread nD τ).loc main_arg0)) (m ((c.tc : Thread nD τ).loc main_arg1))

/-- The wide result is the modulated rows times the wide weights. -/
theorem final_wide (c : Dev nD) : (dats m 0 c).arrAt 5 cfg0.N = Cert.Reference2Ideal.Proj.wide (modR m c) (m ((c.tc : Thread nD τ).loc main_arg2)) := by
  refine (dats m 0 c).arrAt_eq_of_covers 5 _ (by decide +kernel) fun t hf y => ?_
  blk_simp
  rw [after_5]
  have ht : t.val < 208 := lt_208 t
  idx_vars y
  pointwise [wide, rows, k0_pay4, k0_pay2, k0_pay1, Cert.Reference2Ideal.Proj.wide, Cert.Reference2Ideal.Proj.modulated]
  blk_point [iblk, V, idx t]

/-- The narrow result is the modulated rows times the narrow weights. -/
theorem final_narrow (c : Dev nD) : (dats m 0 c).arrAt 6 cfg0.N = Cert.Reference2Ideal.Proj.narrow (modR m c) (m ((c.tc : Thread nD τ).loc main_arg3)) := by
  refine (dats m 0 c).arrAt_eq_of_covers 6 _ (by decide +kernel) fun t hf y => ?_
  blk_simp
  rw [after_6]
  have ht : t.val < 208 := lt_208 t
  idx_vars y
  pointwise [narrow, k0_pay3, k0_pay1, Cert.Reference2Ideal.Proj.narrow, Cert.Reference2Ideal.Proj.modulated]
  blk_point [iblk, V, idx t]

end Cert.Kernel2Ideal.Proj

end
-- ==== Proof.Merge.Ref.lean ====
/- What the reference of the merge computes: the four gated branches summed, projected, added to the scaled
   residual and normalised, each stage as one array of its arguments. -/
module

public import proofs.«01_k».proof.Proof.Gen.Reference3Ideal.Run
public import Idealize.ShloMosaic.Lib.Pipeline.ValueKit.Point
public import Idealize.ShloMosaic.Lib.ValueIdx

@[expose] public section

set_option maxRecDepth 16384

noncomputable section

namespace Cert.Reference3Ideal.Merge

open Idealize.ShloMosaic Idealize.ShloMosaic.TcCoe Idealize.ShloMosaic.Tactic Idealize.ShloMosaic.ValueIdx
open Cert.Reference3Ideal.Gen Cert.Reference3Ideal.Value

variable {F : FTy → Type} [FloatOps F]

/-- The gates: the sigmoid of the merge logits plus the gate bias. -/
def gates (A4 : Vec F S16384x19968 .bf16) (A7 : Vec F S4x2048 .f32) : Vec F S8x2048x4x2048 .f32 :=
  (Host.divf (broadcastInDim S8x2048x4x2048 ![] bcast_S_S8x2048x4x2048 (constant S_ .f32 0x3F800000#32)) (addf (broadcastInDim S8x2048x4x2048 ![] bcast_S_S8x2048x4x2048 (constant S_ .f32 0x3F800000#32)) (Host.exp (Host.negf (addf (shapeCast _ (extf .f32 (extractStridedSlice S16384x8192 ![0, 0] A4 slices_S16384x19968_S16384x8192_0_0) bitsLt_bf16_f32) shapeCasts_S16384x8192_S8x2048x4x2048) (broadcastInDim S8x2048x4x2048 ![0, 1, 2, 3] bcast_S1x1x4x2048_S8x2048x4x2048_0_1_2_3 (broadcastInDim S1x1x4x2048 ![2, 3] bcast_S4x2048_S1x1x4x2048_2_3 A7)))))))

/-- The gated sum of the four branches, each multiplied by its own weights. -/
def mixed (A0 A1 A2 A3 : Vec F S16384x1024 .bf16) (G : Vec F S8x2048x4x2048 .f32) (A8 : Vec F S2x4x1024x2048 .f32) : Vec F S8x2048x2048 .f32 :=
  (addf (addf (addf (mulf (shapeCast _ (extractStridedSlice S8x2048x1x2048 ![0, 0, 0, 0] G slices_S8x2048x4x2048_S8x2048x1x2048_0_0_0_0) shapeCasts_S8x2048x1x2048_S8x2048x2048) (Host.dotGeneral dot_S8x2048x1024_S1024x2048_S8x2048x2048_2_0_01_1_n_n none (shapeCast _ (extf .f32 A0 bitsLt_bf16_f32) shapeCasts_S16384x1024_S8x2048x1024) (shapeCast _ (extractStridedSlice S1x1x1024x2048 ![1, 0, 0, 0] A8 slices_S2x4x1024x2048_S1x1x1024x2048_1_0_0_0) shapeCasts_S1x1x1024x2048_S1024x2048))) (mulf (shapeCast _ (extractStridedSlice S8x2048x1x2048 ![0, 0, 1, 0] G slices_S8x2048x4x2048_S8x2048x1x2048_0_0_1_0) shapeCasts_S8x2048x1x2048_S8x2048x2048) (Host.dotGeneral dot_S8x2048x1024_S1024x2048_S8x2048x2048_2_0_01_1_n_n none (shapeCast _ (extf .f32 A1 bitsLt_bf16_f32) shapeCasts_S16384x1024_S8x2048x1024) (shapeCast _ (extractStridedSlice S1x1x1024x2048 ![1, 1, 0, 0] A8 slices_S2x4x1024x2048_S1x1x1024x2048_1_1_0_0) shapeCasts_S1x1x1024x2048_S1024x2048)))) (mulf (shapeCast _ (extractStridedSlice S8x2048x1x2048 ![0, 0, 2, 0] G slices_S8x2048x4x2048_S8x2048x1x2048_0_0_2_0) shapeCasts_S8x2048x1x2048_S8x2048x2048) (Host.dotGeneral dot_S8x2048x1024_S1024x2048_S8x2048x2048_2_0_01_1_n_n none (shapeCast _ (extf .f32 A2 bitsLt_bf16_f32) shapeCasts_S16384x1024_S8x2048x1024) (shapeCast _ (extractStridedSlice S1x1x1024x2048 ![1, 2, 0, 0] A8 slices_S2x4x1024x2048_S1x1x1024x2048_1_2_0_0) shapeCasts_S1x1x1024x2048_S1024x2048)))) (mulf (shapeCast _ (extractStridedSlice S8x2048x1x2048 ![0, 0, 3, 0] G slices_S8x2048x4x2048_S8x2048x1x2048_0_0_3_0) shapeCasts_S8x2048x1x2048_S8x2048x2048) (Host.dotGeneral dot_S8x2048x1024_S1024x2048_S8x2048x2048_2_0_01_1_n_n none (shapeCast _ (extf .f32 A3 bitsLt_bf16_f32) shapeCasts_S16384x1024_S8x2048x1024) (shapeCast _ (extractStridedSlice S1x1x1024x2048 ![1, 3, 0, 0] A8 slices_S2x4x1024x2048_S1x1x1024x2048_1_3_0_0) shapeCasts_S1x1x1024x2048_S1024x2048))))

/-- The scaled input plus the gated projection of the mixed branches. -/
def resid (A5 : Vec F S16384x2048 .f32) (A6 : Vec F S8x1x6144 .f32) (M : Vec F S8x2048x2048 .f32) (A9 : Vec F S2x2048x2048 .f32) : Vec F S8x2048x2048 .f32 :=
  (addf (mulf (broadcastInDim S8x2048x2048 ![] bcast_S_S8x2048x2048 (constant S_ .f32 0x3FB504F3#32)) (shapeCast _ A5 shapeCasts_S16384x2048_S8x2048x2048)) (mulf (broadcastInDim S8x2048x2048 ![0, 1, 2] bcast_S8x1x2048_S8x2048x2048_0_1_2 (broadcastInDim S8x1x2048 ![0, 2] bcast_S8x2048_S8x1x2048_0_2 (extractStridedSlice S8x2048 ![0, 4096] (shapeCast _ A6 shapeCasts_S8x1x6144_S8x6144) slices_S8x6144_S8x2048_0_4096))) (Host.dotGeneral dot_S8x2048x2048_S2048x2048_S8x2048x2048_2_0_01_1_n_n none M (shapeCast _ (extractStridedSlice S1x2048x2048 ![1, 0, 0] A9 slices_S2x2048x2048_S1x2048x2048_1_0_0) shapeCasts_S1x2048x2048_S2048x2048))))

/-- The layer norm of a residual, laid out by rows. -/
def normed (R : Vec F S8x2048x2048 .f32) (A10 A11 : Vec F S2048 .f32) : Vec F S16384x2048 .f32 :=
  shapeCast _ (addf (mulf (mulf (subf R (broadcastInDim S8x2048x2048 ![0, 1, 2] bcast_S8x2048x1_S8x2048x2048_0_1_2 (Host.divf (broadcastInDim S8x2048x1 ![0, 1] bcast_S8x2048_S8x2048x1_0_1 (Host.reduceAdd R (constant S_ .f32 0x00000000#32) reducesTo_S8x2048x2048_S8x2048_d2 h_S_)) (broadcastInDim S8x2048x1 ![] bcast_S_S8x2048x1 (constant S_ .f32 0x45000000#32))))) (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf (subf R (broadcastInDim S8x2048x2048 ![0, 1, 2] bcast_S8x2048x1_S8x2048x2048_0_1_2 (Host.divf (broadcastInDim S8x2048x1 ![0, 1] bcast_S8x2048_S8x2048x1_0_1 (Host.reduceAdd R (constant S_ .f32 0x00000000#32) reducesTo_S8x2048x2048_S8x2048_d2 h_S_)) (broadcastInDim S8x2048x1 ![] bcast_S_S8x2048x1 (constant S_ .f32 0x45000000#32))))) (subf R (broadcastInDim S8x2048x2048 ![0, 1, 2] bcast_S8x2048x1_S8x2048x2048_0_1_2 (Host.divf (broadcastInDim S8x2048x1 ![0, 1] bcast_S8x2048_S8x2048x1_0_1 (Host.reduceAdd R (constant S_ .f32 0x00000000#32) reducesTo_S8x2048x2048_S8x2048_d2 h_S_)) (broadcastInDim S8x2048x1 ![] bcast_S_S8x2048x1 (constant S_ .f32 0x45000000#32)))))) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x3727C5AC#32)))))) (broadcastInDim S8x2048x2048 ![0, 1, 2] bcast_S1x1x2048_S8x2048x2048_0_1_2 (broadcastInDim S1x1x2048 ![2] bcast_S2048_S1x1x2048_2 A10))) (broadcastInDim S8x2048x2048 ![0, 1, 2] bcast_S1x1x2048_S8x2048x2048_0_1_2 (broadcastInDim S1x1x2048 ![2] bcast_S2048_S1x1x2048_2 A11))) shapeCasts_S8x2048x2048_S16384x2048

/-- The reference's result is the layer norm of the residual of the mixed branches. -/
theorem result_eq (m : (ℓ : Loc nD τ sig) → Buf (Elt F) ℓ) (c : Dev nD) :
    res_main_v85 m c = normed (resid (m ((c.tc : Thread nD τ).loc main_arg5)) (m ((c.tc : Thread nD τ).loc main_arg6))
      (mixed (m ((c.tc : Thread nD τ).loc main_arg0)) (m ((c.tc : Thread nD τ).loc main_arg1)) (m ((c.tc : Thread nD τ).loc main_arg2))
        (m ((c.tc : Thread nD τ).loc main_arg3)) (gates (m ((c.tc : Thread nD τ).loc main_arg4)) (m ((c.tc : Thread nD τ).loc main_arg7)))
        (m ((c.tc : Thread nD τ).loc main_arg8))) (m ((c.tc : Thread nD τ).loc main_arg9)))
      (m ((c.tc : Thread nD τ).loc main_arg10)) (m ((c.tc : Thread nD τ).loc main_arg11)) := by
  unfold res_main_v85 normed resid mixed gates
  rfl

end Cert.Reference3Ideal.Merge

end
-- ==== Proof.Merge.Tile.lean ====
/- What one tile of the merge computes from its blocks. -/
module

public import proofs.«01_k».proof.Proof.Gen.Kernel3Ideal.Value

public import Idealize.ShloMosaic.Lib.Pipeline.ValueKit
public import Idealize.ShloMosaic.Lib.ValueIdx

@[expose] public section

set_option maxRecDepth 16384

noncomputable section

namespace Cert.Kernel3Ideal.Merge

open Cert.Kernel3Ideal Cert.Kernel3Ideal.Gen Idealize.ShloMosaic Idealize.ShloMosaic.TcCoe Idealize.SL.Sem
open Idealize.ShloMosaic.Tactic Idealize.ShloMosaic.ValueIdx

variable {F : FTy → Type} [FloatOps F]

/-- The merge logits of branch `k`. -/
def logits (o : ℕ) (ho : ∀ a, ![0, o] a + S256x2048.size a ≤ S256x8192.size a) (x4 : Vec F S256x8192 .bf16) : Vec F S256x2048 .bf16 :=
  View.ld x4 (Rect.unit (s := S256x8192) ![0, o] S256x2048.size ho)

/-- The gate bias of branch `k`. -/
def bias (k : ℕ) (hk : ∀ a, ![k, 0] a + S1x2048.size a ≤ S4x2048.size a) (x7 : Vec F S4x2048 .f32) : Vec F S1x2048 .f32 :=
  View.ld x7 (Rect.unit (s := S4x2048) ![k, 0] S1x2048.size hk)

/-- The weights of branch `k`. -/
def weights (k : ℕ) (hk : ∀ a, ![0, k, 0, 0] a + S1x1x1024x2048.size a ≤ S1x4x1024x2048.size a) (x8 : Vec F S1x4x1024x2048 .bf16) : Vec F S1x1x1024x2048 .bf16 :=
  View.ld x8 (Rect.unit (s := S1x4x1024x2048) ![0, k, 0, 0] S1x1x1024x2048.size hk)

/-- The tile's residual: the scaled input plus the gated projection of the mixed branches. -/
def resid (x0 x1 x2 x3 : Vec F S256x1024 .bf16) (x4 : Vec F S256x8192 .bf16) (x5 : Vec F S256x2048 .f32) (x6 : Vec F S1x1x2048 .f32)
    (x7 : Vec F S4x2048 .f32) (x8 : Vec F S1x4x1024x2048 .bf16) (x9 : Vec F S1x2048x2048 .bf16) : Vec F S256x2048 .f32 :=
  k0_pay4 (k0_pay2 (logits 0 (by decide) x4) (bias 0 (by decide) x7) x0 (weights 0 (by decide) x8)
      (logits 2048 (by decide) x4) (bias 1 (by decide) x7) x1 (weights 1 (by decide) x8))
    (k0_pay3 (logits 4096 (by decide) x4) (bias 2 (by decide) x7)) x2 (weights 2 (by decide) x8)
    (logits 6144 (by decide) x4) (bias 3 (by decide) x7) x3 (weights 3 (by decide) x8) x9 x5 x6

/-- The rows' means. -/
def means (r : Vec F S256x2048 .f32) : Vec F S256x1 .f32 :=
  divf (shapeCast S256x1 (multiReduction .add [1] S256 r 0x00000000#32 reduces_S256x2048_S256 (.inl rfl) rfl) shapeCasts_S256_S256x1)
    (broadcast S256x1 (Scalar.ofBits .f32 0x45000000#32))

/-- The tile's layer norm. -/
def normed (r : Vec F S256x2048 .f32) (x10 x11 : Vec F S1x2048 .f32) : Vec F S256x2048 .f32 :=
  k0_pay1 r (means r) x10 x11

/-- A load of a whole array of rank 2. -/
theorem ld_zero2 {n k : ℕ} {e : EltTy} (h) (x : (⟨2, ![n, k]⟩ : Shape).Idx → Elt F e) :
    View.ld x (Rect.unit (s := (⟨2, ![n, k]⟩ : Shape)) ![0, 0] ![n, k] h) = x :=
  View.ld_unit_zero (funext fun a => by match a with | ⟨0, _⟩ => rfl | ⟨1, _⟩ => rfl) h x

/-- A load of a whole array of rank 3. -/
theorem ld_zero3 {n k l : ℕ} {e : EltTy} (h) (x : (⟨3, ![n, k, l]⟩ : Shape).Idx → Elt F e) :
    View.ld x (Rect.unit (s := (⟨3, ![n, k, l]⟩ : Shape)) ![0, 0, 0] ![n, k, l] h) = x :=
  View.ld_unit_zero (funext fun a => by match a with | ⟨0, _⟩ => rfl | ⟨1, _⟩ => rfl | ⟨2, _⟩ => rfl) h x

/-- A store over a whole array of rank 2. -/
theorem canon_zero2 {n k : ℕ} {e : EltTy} (h) (w : (⟨2, ![n, k]⟩ : Shape).Idx → Elt F e)
    (L : List (View.Piece (Elt F) (⟨2, ![n, k]⟩ : Shape) e)) :
    View.canon ((⟨Rect.unit (s := (⟨2, ![n, k]⟩ : Shape)) ![0, 0] ![n, k] h, w⟩ : View.Piece (Elt F) _ e) :: L) = w :=
  View.canon_cons_unit_zero (funext fun a => by match a with | ⟨0, _⟩ => rfl | ⟨1, _⟩ => rfl) h w L

/-- What the tile's point leaves in the result's block. -/
theorem out_eq (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x8192 .bf16) (harg5 : arg5.IsWhole) (arg6 : Memref sig .tc .vmem S256x2048 .f32) (harg6 : arg6.IsWhole) (arg7 : Memref sig .tc .vmem S1x1x2048 .f32) (harg7 : arg7.IsWhole) (arg8 : Memref sig .tc .vmem S4x2048 .f32) (harg8 : arg8.IsWhole) (arg9 : Memref sig .tc .vmem S1x4x1024x2048 .bf16) (harg9 : arg9.IsWhole) (arg10 : Memref sig .tc .vmem S1x2048x2048 .bf16) (harg10 : arg10.IsWhole) (arg11 : Memref sig .tc .vmem S1x2048 .f32) (harg11 : arg11.IsWhole) (arg12 : Memref sig .tc .vmem S1x2048 .f32) (harg12 : arg12.IsWhole) (arg13 : Memref sig .tc .vmem S256x2048 .f32) (harg13 : arg13.IsWhole)
    (x0 : Vec F S256x1024 .bf16) (x1 : Vec F S256x1024 .bf16) (x2 : Vec F S256x1024 .bf16) (x3 : Vec F S256x1024 .bf16) (x4 : Vec F S256x8192 .bf16) (x5 : Vec F S256x2048 .f32) (x6 : Vec F S1x1x2048 .f32) (x7 : Vec F S4x2048 .f32) (x8 : Vec F S1x4x1024x2048 .bf16) (x9 : Vec F S1x2048x2048 .bf16) (x10 : Vec F S1x2048 .f32) (x11 : Vec F S1x2048 .f32) :
    out0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11
      = normed (resid x0 x1 x2 x3 x4 x5 x6 x7 x8 x9) x10 x11 := by
  unfold out0_A_12 kernelRun0_A; dsimp only; sl_unfold_words
  simp only [View.read_writes_junk_eq_canon, canon_zero2]
  simp only [View.readAt_eq_ld, Memref.IsWhole.read_unread, ld_zero2, ld_zero3]
  rfl

end Cert.Kernel3Ideal.Merge

end
-- ==== Proof.Merge.Grid.lean ====
/- The merge's result is the layer norm of the residual of the mixed branches. -/
module

public import proofs.«01_k».proof.Proof.Gen.Kernel3Ideal.Value
public import proofs.«01_k».proof.Proof.Merge.Tile
public import proofs.«01_k».proof.Proof.Merge.Ref
public import Idealize.ShloMosaic.Lib.Pipeline.ValueKit

@[expose] public section

set_option maxRecDepth 16384

noncomputable section

namespace Cert.Kernel3Ideal.Merge

open Cert.Kernel3Ideal Cert.Kernel3Ideal.Gen Idealize.ShloMosaic Idealize.ShloMosaic.TcCoe Idealize.SL.Sem
open Idealize.ShloMosaic.Tactic

variable (m : (ℓ : Loc nD τ sig) → Buf (Elt Ideal) ℓ)

/-- The blocks of every window at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val / 8, 0, 2]
    ∧ win0_7.index t = ![0, 0] ∧ win0_8.index t = ![1, 0, 0, 0] ∧ win0_9.index t = ![1, 0, 0] ∧ win0_10.index t = ![0, 0]
    ∧ win0_11.index t = ![0, 0] ∧ win0_12.index t = ![t.val, 0] :=
  (by decide +kernel : ∀ t : Fin grid0.N, _)

/-- The logits' block is moved whole. -/
theorem logits_block (c : Dev nD) (t : Fin cfg0.N) (y : Fin 256) (k : Fin 8192) :
    X0_4 m c t (ix2 y k) = m ((c.tc : Thread nD τ).loc main_arg4) (ix2 ⟨256 * t.val + y.val, by have h : t.val < 64 := t.isLt; omega⟩ ⟨k.val, by omega⟩) := by
  unfold X0_4 Pipeline.Window.fill
  rw [dif_pos (moved0_4 t (ix2 y k))]
  blk_simp [iblk, idx t]
  rw [V_main_arg4]
  blk_ext [idx t]

/-- The residual of the whole layer. -/
abbrev residR (m : (ℓ : Loc nD τ sig) → Buf (Elt Ideal) ℓ) (c : Dev nD) : Vec Ideal Cert.Reference3Ideal.S8x2048x2048 .f32 :=
  Cert.Reference3Ideal.Merge.resid (m ((c.tc : Thread nD τ).loc main_arg5)) (m ((c.tc : Thread nD τ).loc main_arg6))
    (Cert.Reference3Ideal.Merge.mixed (m ((c.tc : Thread nD τ).loc main_arg0)) (m ((c.tc : Thread nD τ).loc main_arg1)) (m ((c.tc : Thread nD τ).loc main_arg2)) (m ((c.tc : Thread nD τ).loc main_arg3))
      (Cert.Reference3Ideal.Merge.gates (m ((c.tc : Thread nD τ).loc main_arg4)) (m ((c.tc : Thread nD τ).loc main_arg7))) (m ((c.tc : Thread nD τ).loc main_arg8))) (m ((c.tc : Thread nD τ).loc main_arg9))

/-- One entry of a tile's residual is the entry of the layer's. -/
theorem resid_at (c : Dev nD) (t : Fin cfg0.N) (y : Fin 256) (l : Fin 2048) (b : Fin 8) (s : Fin 2048)
    (hbs : 2048 * b.val + s.val = 256 * t.val + y.val) :
    resid (iblk m c 0 t) (iblk m c 1 t) (iblk m c 2 t) (iblk m c 3 t) (X0_4 m c t) (iblk m c 5 t) (iblk m c 6 t) (iblk m c 7 t)
      (iblk m c 8 t) (iblk m c 9 t) (ix2 y l) = residR m c (ix3 b s l) := by
  pointwise [resid, k0_pay4, k0_pay2, k0_pay3, logits, bias, weights, residR, Cert.Reference3Ideal.Merge.resid, Cert.Reference3Ideal.Merge.mixed, Cert.Reference3Ideal.Merge.gates]
  simp only [logits_block, Ideal.logistic]
  blk_point [iblk, V, idx t]

/-- The merge's result is the layer norm of the residual of the mixed branches. -/
theorem final (c : Dev nD) : (dats m 0 c).arrAt 12 cfg0.N
    = Cert.Reference3Ideal.Merge.normed (residR m c) (m ((c.tc : Thread nD τ).loc main_arg10)) (m ((c.tc : Thread nD τ).loc main_arg11)) := by
  refine (dats m 0 c).arrAt_eq_of_covers 12 _ (by decide +kernel) fun t hf y => ?_
  blk_simp
  rw [after0_12]
  unfold outsAt0
  rw [out_eq]
  have ht : t.val < 64 := t.isLt
  have hr : ∀ (y : Fin 256) (l : Fin 2048), resid (iblk m c 0 t) (iblk m c 1 t) (iblk m c 2 t) (iblk m c 3 t) (X0_4 m c t) (iblk m c 5 t) (iblk m c 6 t) (iblk m c 7 t)
      (iblk m c 8 t) (iblk m c 9 t) (ix2 y l) = residR m c (ix3 ⟨(256 * t.val + y.val) / 2048, by omega⟩ ⟨(256 * t.val + y.val) % 2048, by omega⟩ l) :=
    fun y l => resid_at m c t y l _ _ (by show 2048 * ((256 * t.val + y.val) / 2048) + (256 * t.val + y.val) % 2048 = _; omega)
  generalize resid (iblk m c 0 t) (iblk m c 1 t) (iblk m c 2 t) (iblk m c 3 t) (X0_4 m c t) (iblk m c 5 t) (iblk m c 6 t) (iblk m c 7 t)
      (iblk m c 8 t) (iblk m c 9 t) = r at hr ⊢
  generalize residR m c = R at hr ⊢
  idx_vars y
  pointwise [normed, k0_pay1, means, Cert.Reference3Ideal.Merge.normed]
  simp only [hr]
  blk_point [iblk, V, idx t]

end Cert.Kernel3Ideal.Merge

end
-- ==== Proof.Ada.Final.lean ====
/- The conditioning: the activated condition times a layer's weights, plus its bias. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ValueKit.Point

@[expose] public section

set_option maxRecDepth 16384

noncomputable section

namespace Cert.Reference4Ideal.Ada

open Idealize.ShloMosaic Idealize.ShloMosaic.TcCoe Idealize.ShloMosaic.Tactic Idealize.SL.Sem
open Cert.Reference4Ideal Cert.Reference4Ideal.Gen Cert.Reference4Ideal.Value

variable {F : FTy → Type} [FloatOps F]

/-- The condition times its sigmoid, times the first layer's weights, plus the first layer's bias. -/
def conditioned (A0 : Vec F S8x2048 .f32) (A1 : Vec F S2x2048x6144 .f32) (A2 : Vec F S2x6144 .f32) : Vec F S8x6144 .f32 :=
  addf (Host.dotGeneral dot_S8x2048_S2048x6144_S8x6144_1_0_0_1_n_n none (mulf A0 (Host.divf (broadcastInDim S8x2048 ![] bcast_S_S8x2048 (constant S_ .f32 0x3F800000#32)) (addf (broadcastInDim S8x2048 ![] bcast_S_S8x2048 (constant S_ .f32 0x3F800000#32)) (Host.exp (Host.negf A0))))) (shapeCast _ (extractStridedSlice S1x2048x6144 ![0, 0, 0] A1 slices_S2x2048x6144_S1x2048x6144_0_0_0) shapeCasts_S1x2048x6144_S2048x6144)) (broadcastInDim S8x6144 ![0, 1] bcast_S1x6144_S8x6144_0_1 (broadcastInDim S1x6144 ![1] bcast_S6144_S1x6144_1 (shapeCast _ (extractStridedSlice S1x6144 ![0, 0] A2 slices_S2x6144_S1x6144_0_0) shapeCasts_S1x6144_S6144)))

/-- The reference ends with this array, its arguments unchanged. -/
theorem run_named (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14) = conditioned (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold conditioned
  exact run m ρ

end Cert.Reference4Ideal.Ada

namespace Cert.Kernel4Ideal.Ada

open Cert.Kernel4Ideal Cert.Kernel4Ideal.Gen Idealize.ShloMosaic Idealize.ShloMosaic.TcCoe Idealize.SL.Sem
open Idealize.ShloMosaic.Tactic

variable (m : (ℓ : Loc nD τ sig) → Buf (Elt Ideal) ℓ)

/-- The blocks of every window at a point. -/
theorem idx : ∀ t : Fin cfg0.N, win0_0.index t = ![0, 0] ∧ win0_1.index t = ![0, 0, t.val] ∧ win0_2.index t = ![0, 0, t.val]
    ∧ win0_3.index t = ![0, t.val] :=
  (by decide +kernel : ∀ t : Fin grid0.N, _)

/-- What a point leaves in the result's block. -/
theorem out_eq {F : FTy → Type} [FloatOps F] (x0 : Vec F S8x2048 .f32) (x1 : Vec F S1x2048x768 .f32) (x2 : Vec F S1x1x768 .f32) :
    out0_3 x0 x1 x2 = k0_pay1 x0 x1 x2 := by
  unfold out0_3
  have e0 : View.ld x0 r0_0 = x0 := View.ld_unit_zero (funext fun a => by match a with | ⟨0, _⟩ => rfl | ⟨1, _⟩ => rfl) _ x0
  have e1 : View.ld x1 r0_1 = x1 := View.ld_unit_zero (funext fun a => by match a with | ⟨0, _⟩ => rfl | ⟨1, _⟩ => rfl | ⟨2, _⟩ => rfl) _ x1
  have e2 : View.ld x2 r0_2 = x2 := View.ld_unit_zero (funext fun a => by match a with | ⟨0, _⟩ => rfl | ⟨1, _⟩ => rfl | ⟨2, _⟩ => rfl) _ x2
  rw [e0, e1, e2]
  exact View.canon_cons_unit_zero (funext fun a => by match a with | ⟨0, _⟩ => rfl | ⟨1, _⟩ => rfl) _ _ _

/-- The result is the conditioned array of the arguments. -/
theorem final (c : Dev nD) : (dats m 0 c).arrAt 3 cfg0.N
    = Cert.Reference4Ideal.Ada.conditioned (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3, out_eq]
  have ht : t.val < 8 := t.isLt
  idx_vars y
  pointwise [k0_pay1, Cert.Reference4Ideal.Ada.conditioned]
  simp only [Ideal.logistic]
  blk_point [iblk, V, idx t]

end Cert.Kernel4Ideal.Ada

end
-- ==== Proof.Rope.Final.lean ====
/- The rotary tables: cosines and signed sines of the positions times the frequencies, for two heads side by side. -/
module

public import proofs.«01_k».proof.Proof.Gen.Kernel5Ideal.Frame
public import Idealize.ShloMosaic.Lib.Pipeline.Value
public import proofs.«01_k».proof.Proof.Gen.Reference5Ideal.Run
public import Idealize.ShloMosaic.Lib.Pipeline.ValueKit
public import Idealize.ShloMosaic.Lib.Pipeline.ValueKit.Point

@[expose] public section

set_option maxRecDepth 16384

noncomputable section

namespace Cert.Reference5Ideal.Rope

open Idealize.ShloMosaic Idealize.ShloMosaic.TcCoe Idealize.ShloMosaic.Tactic Idealize.SL.Sem
open Cert.Reference5Ideal Cert.Reference5Ideal.Gen Cert.Reference5Ideal.Value

variable {F : FTy → Type} [FloatOps F]

/-- The angles: positions times frequencies. -/
def angle (A : Vec F S8x2048 .i32) : Vec F S8x2048x32 .f32 :=
  (mulf (broadcastInDim S8x2048x32 ![0, 1, 2] bcast_S8x2048x1_S8x2048x32_0_1_2 (broadcastInDim S8x2048x1 ![0, 1] bcast_S8x2048_S8x2048x1_0_1 (sitofp .f32 A))) (broadcastInDim S8x2048x32 ![0, 1, 2] bcast_S1x1x32_S8x2048x32_0_1_2 (broadcastInDim S1x1x32 ![2] bcast_S32_S1x1x32_2 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))

/-- The cosines, four times side by side. -/
def cosines (T : Vec F S8x2048x32 .f32) : Vec F S16384x128 .f32 :=
  shapeCast _ ((concatenate S8x2048x128 2 [⟨S8x2048x32, ((Host.cos T) : (⟨S8x2048x32, .f32⟩ : BufTy).Contents (Elt F))⟩, ⟨S8x2048x32, ((Host.cos T) : (⟨S8x2048x32, .f32⟩ : BufTy).Contents (Elt F))⟩, ⟨S8x2048x32, ((Host.cos T) : (⟨S8x2048x32, .f32⟩ : BufTy).Contents (Elt F))⟩, ⟨S8x2048x32, ((Host.cos T) : (⟨S8x2048x32, .f32⟩ : BufTy).Contents (Elt F))⟩] concatenates_S8x2048x32_S8x2048x32_S8x2048x32_S8x2048x32_S8x2048x128_d2 : (⟨S8x2048x128, .f32⟩ : BufTy).Contents (Elt F))) shapeCasts_S8x2048x128_S16384x128

/-- The sines, those of the first halves negated. -/
def sines (T : Vec F S8x2048x32 .f32) : Vec F S16384x128 .f32 :=
  shapeCast _ ((concatenate S8x2048x128 2 [⟨S8x2048x32, ((Host.negf (Host.sin T)) : (⟨S8x2048x32, .f32⟩ : BufTy).Contents (Elt F))⟩, ⟨S8x2048x32, ((Host.sin T) : (⟨S8x2048x32, .f32⟩ : BufTy).Contents (Elt F))⟩, ⟨S8x2048x32, ((Host.negf (Host.sin T)) : (⟨S8x2048x32, .f32⟩ : BufTy).Contents (Elt F))⟩, ⟨S8x2048x32, ((Host.sin T) : (⟨S8x2048x32, .f32⟩ : BufTy).Contents (Elt F))⟩] concatenates_S8x2048x32_S8x2048x32_S8x2048x32_S8x2048x32_S8x2048x128_d2 : (⟨S8x2048x128, .f32⟩ : BufTy).Contents (Elt F))) shapeCasts_S8x2048x128_S16384x128

/-- The reference ends with these two arrays, its argument unchanged. -/
theorem run_named (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15) = cosines (angle (m ((c.tc : Thread nD τ).loc main_arg0)))
      ∧ r.2.mem ((c.tc : Thread nD τ).loc main_v19) = sines (angle (m ((c.tc : Thread nD τ).loc main_arg0)))
      ∧ r.2.mem ((c.tc : Thread nD τ).loc main_arg0) = m ((c.tc : Thread nD τ).loc main_arg0) := by
  unfold cosines sines angle
  exact run m ρ

/-- An entry of the cosines. -/
theorem cosines_at (T : Vec Ideal S8x2048x32 .f32) (b : Fin 8) (s : Fin 2048) (y : Fin 16384) (l : Fin 128) (k : Fin 32)
    (hy : y.val = 2048 * b.val + s.val) (hk : k.val = l.val % 32) : cosines T (ix2 y l) = (Host.cos (F := Ideal) (φ := .f32) T) (ix3 b s k) := by
  have hl := l.isLt
  pointwise [cosines]
  have hb : (⟨y.val / 2048, by omega⟩ : Fin 8) = b := Fin.ext (by simp only; omega)
  have hs : (⟨y.val % 2048, by omega⟩ : Fin 2048) = s := Fin.ext (by simp only; omega)
  have key : ∀ (j : ℕ) (h : j < 32), j = l.val % 32 →
      T (ix3 ⟨y.val / 2048, by omega⟩ ⟨y.val % 2048, by omega⟩ ⟨j, h⟩) = T (ix3 b s k) := by
    intro j h hj
    rw [hb, hs, show (⟨j, h⟩ : Fin 32) = k from Fin.ext (by simp only; omega)]
  split_ifs <;> rw [key _ _ (by omega)]

/-- An entry of the sines. -/
theorem sines_at (T : Vec Ideal S8x2048x32 .f32) (b : Fin 8) (s : Fin 2048) (y : Fin 16384) (l : Fin 128) (k : Fin 32)
    (hy : y.val = 2048 * b.val + s.val) (hk : k.val = l.val % 32) :
    sines T (ix2 y l) = if l.val % 64 < 32 then (Host.negf (F := Ideal) (φ := .f32) (Host.sin (F := Ideal) (φ := .f32) T)) (ix3 b s k) else (Host.sin (F := Ideal) (φ := .f32) T) (ix3 b s k) := by
  have hl := l.isLt
  pointwise [sines]
  have hb : (⟨y.val / 2048, by omega⟩ : Fin 8) = b := Fin.ext (by simp only; omega)
  have hs : (⟨y.val % 2048, by omega⟩ : Fin 2048) = s := Fin.ext (by simp only; omega)
  have key : ∀ (j : ℕ) (h : j < 32), j = l.val % 32 →
      T (ix3 ⟨y.val / 2048, by omega⟩ ⟨y.val % 2048, by omega⟩ ⟨j, h⟩) = T (ix3 b s k) := by
    intro j h hj
    rw [hb, hs, show (⟨j, h⟩ : Fin 32) = k from Fin.ext (by simp only; omega)]
  by_cases hc : l.val % 64 < 32
  · rw [if_pos hc]
    split_ifs <;> first
      | (exfalso; omega)
      | rw [key _ _ (by omega)]
  · rw [if_neg hc]
    split_ifs <;> first
      | (exfalso; omega)
      | rw [key _ _ (by omega)]

end Cert.Reference5Ideal.Rope

namespace Cert.Kernel5Ideal.Rope

open Cert.Kernel5Ideal Cert.Kernel5Ideal.Gen Idealize.ShloMosaic Idealize.ShloMosaic.TcCoe Idealize.SL.Sem
open Idealize.ShloMosaic.Tactic
open Cert.Reference5Ideal.Rope (angle cosines sines cosines_at sines_at)

variable (m : (ℓ : Loc nD τ sig) → Buf (Elt Ideal) ℓ)

/-- The blocks of every window at a point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- What a point leaves in the cosines' block. -/
theorem out_cos {F : FTy → Type} [FloatOps F] (x0 : Vec F S2048x1 .i32) (x1 : Vec F S1x128 .f32) : out0_2 x0 x1 = k0_pay2 x0 x1 := by
  unfold out0_2
  have e0 : View.ld x0 r0_0 = x0 := View.ld_unit_zero (funext fun a => by match a with | ⟨0, _⟩ => rfl | ⟨1, _⟩ => rfl) _ x0
  have e1 : View.ld x1 r0_1 = x1 := View.ld_unit_zero (funext fun a => by match a with | ⟨0, _⟩ => rfl | ⟨1, _⟩ => rfl) _ x1
  rw [e0, e1]
  exact View.canon_cons_unit_zero (funext fun a => by match a with | ⟨0, _⟩ => rfl | ⟨1, _⟩ => rfl) _ _ _

/-- What a point leaves in the sines' block. -/
theorem out_sin {F : FTy → Type} [FloatOps F] (x0 : Vec F S2048x1 .i32) (x1 : Vec F S1x128 .f32) : out0_3 x0 x1 = k0_pay3 x0 x1 := by
  unfold out0_3
  have e0 : View.ld x0 r0_0 = x0 := View.ld_unit_zero (funext fun a => by match a with | ⟨0, _⟩ => rfl | ⟨1, _⟩ => rfl) _ x0
  have e1 : View.ld x1 r0_1 = x1 := View.ld_unit_zero (funext fun a => by match a with | ⟨0, _⟩ => rfl | ⟨1, _⟩ => rfl) _ x1
  rw [e0, e1]
  exact View.canon_cons_unit_zero (funext fun a => by match a with | ⟨0, _⟩ => rfl | ⟨1, _⟩ => rfl) _ _ _

/-- The frequencies that the points read. -/
theorem freq_at (c : Dev nD) (l : Fin 128) (k : Fin 32) (hk : k.val = l.val % 32) :
    V m c main_v9 (ix2 0 l) = Ideal.pow (Ideal.ofBits .f32 1176256512#32)
      (Ideal.div (-FloatOps.sitofp (F := Ideal) .f32 (BitVec.ofNat 32 k.val)) (Ideal.ofBits .f32 1107296256#32)) := by
  have e : V m c main_v9 = shapeCast S1x128 (shapeCast S128 (broadcastInDim S4x32 ![0, 1] bcast_S1x32_S4x32_0_1
      (shapeCast S1x32 (Host.powf (F := Ideal) (φ := .f32) (broadcastInDim S32 ![] bcast_S_S32 (constant S_ .f32 0x461C4000#32))
        (Host.divf (Host.negf (sitofp .f32 (iotaInDim S32 32 0))) (broadcastInDim S32 ![] bcast_S_S32 (constant S_ .f32 0x42000000#32))))
        shapeCasts_S32_S1x32)) shapeCasts_S4x32_S128) shapeCasts_S128_S1x128 := rfl
  rw [e]
  pointwise
  rw [hk]

/-- A point's angles are the reference's. -/
theorem angle_at (c : Dev nD) (t : Fin cfg0.N) (y : Fin 2048) (l : Fin 128) (b : Fin 8) (s : Fin 2048) (k : Fin 32)
    (hb : 2048 * b.val + s.val = 2048 * t.val + y.val) (hk : k.val = l.val % 32) :
    k0_pay1 (iblk m c 0 t) (iblk m c 1 t) (ix2 y l) = angle (m ((c.tc : Thread nD τ).loc main_arg0)) (ix3 b s k) := by
  have ht : t.val < 8 := t.isLt
  pointwise [k0_pay1, angle]
  blk_point [iblk, V, idx t]
  rw [show (win0_1.blk t).view.emb (ix2 0 l) = ix2 0 l from by blk_ext [idx t], freq_at m c l k hk]

/-- The first array is the cosines. -/
theorem final_cos (c : Dev nD) : (dats m 0 c).arrAt 2 cfg0.N = cosines (angle (m ((c.tc : Thread nD τ).loc main_arg0))) := by
  refine (dats m 0 c).arrAt_eq_of_covers 2 _ (by decide +kernel) fun t hf y => ?_
  blk_simp [idx t]
  rw [after0_2, out_cos]
  have ht : t.val < 8 := t.isLt
  idx_vars y
  rw [show ((View.whole main_v11_0).slice (win0_2.rect t)).emb (ix2 y0 y1) = ix2 ⟨2048 * t.val + y0.val, by omega⟩ y1 from by blk_ext [idx t],
    cosines_at _ ⟨t.val, by omega⟩ y0 _ y1 ⟨y1.val % 32, by omega⟩ rfl rfl]
  show Ideal.cos (k0_pay1 (iblk m c 0 t) (iblk m c 1 t) (ix2 y0 y1)) = Ideal.cos _
  rw [angle_at m c t y0 y1 ⟨t.val, by omega⟩ y0 ⟨y1.val % 32, by omega⟩ rfl rfl]

/-- The lanes whose sines are negated: those of a head's first half. -/
theorem lane : ∀ l : Fin 128,
      (IntOp.cmpi CmpIPredicate.slt
        (Scalar.select
          (IntOp.andi
            (IntOp.xori
              (IntOp.cmpi CmpIPredicate.slt
                (IntOp.remsi ArithUnit.vector (BitVec.ofNat 32 l.val)
                  (Scalar.select (Scalar.cmpi CmpIPredicate.eq 64#32 0#32) 1#32 64#32))
                0#32)
              (Scalar.cmpi CmpIPredicate.slt (Scalar.select (Scalar.cmpi CmpIPredicate.eq 64#32 0#32) 1#32 64#32) 0#32))
            (IntOp.cmpi CmpIPredicate.ne
              (IntOp.remsi ArithUnit.vector (BitVec.ofNat 32 l.val)
                (Scalar.select (Scalar.cmpi CmpIPredicate.eq 64#32 0#32) 1#32 64#32))
              0#32))
          (IntOp.addi
            (IntOp.remsi ArithUnit.vector (BitVec.ofNat 32 l.val)
              (Scalar.select (Scalar.cmpi CmpIPredicate.eq 64#32 0#32) 1#32 64#32))
            (Scalar.select (Scalar.cmpi CmpIPredicate.eq 64#32 0#32) 1#32 64#32))
          (IntOp.remsi ArithUnit.vector (BitVec.ofNat 32 l.val)
            (Scalar.select (Scalar.cmpi CmpIPredicate.eq 64#32 0#32) 1#32 64#32)))
        32#32)
      = if l.val % 64 < 32 then 1#1 else 0#1 := by
  decide +kernel

/-- The second array is the sines. -/
theorem final_sin (c : Dev nD) : (dats m 0 c).arrAt 3 cfg0.N = sines (angle (m ((c.tc : Thread nD τ).loc main_arg0))) := by
  refine (dats m 0 c).arrAt_eq_of_covers 3 _ (by decide +kernel) fun t hf y => ?_
  blk_simp [idx t]
  rw [after0_3, out_sin]
  have ht : t.val < 8 := t.isLt
  idx_vars y
  rw [show ((View.whole main_v11_1).slice (win0_3.rect t)).emb (ix2 y0 y1) = ix2 ⟨2048 * t.val + y0.val, by omega⟩ y1 from by blk_ext [idx t],
    sines_at _ ⟨t.val, by omega⟩ y0 _ y1 ⟨y1.val % 32, by omega⟩ rfl rfl]
  have ha := angle_at m c t y0 y1 ⟨t.val, by omega⟩ y0 ⟨y1.val % 32, by omega⟩ rfl rfl
  pointwise [k0_pay3]
  rw [lane y1, ha]
  by_cases hc : y1.val % 64 < 32
  · rw [if_pos hc, if_pos hc]
    exact zero_sub (_ : EReal)
  · rw [if_neg hc, if_neg hc]
    rfl

/-- The kernel ends with these two arrays, its argument unchanged. -/
theorem run_arrays (ρ : Dev nD → PrngReg) :
    θ_run defs (onTc (τ := τ) (main (F := Ideal))) ⟨m, fun _ => 0, ρ⟩ fun r => ∀ c : Dev nD,
      r.2.mem ((c.tc : Thread nD τ).loc main_v11_0) = (dats m 0 c).arrAt 2 cfg0.N
      ∧ r.2.mem ((c.tc : Thread nD τ).loc main_v11_1) = (dats m 0 c).arrAt 3 cfg0.N
      ∧ r.2.mem ((c.tc : Thread nD τ).loc main_arg0) = m ((c.tc : Thread nD τ).loc main_arg0) :=
  (θ_run defs _ _).mono (fun r h c => ⟨(h c).1 2, (h c).1 3,
    ((h c).2 main_arg0 (Pipeline.mem_restRefs_of main_arg0 (by decide) (by decide))).trans (V_main_arg0 m c)⟩) (run_main m ρ)

end Cert.Kernel5Ideal.Rope

end
-- ==== Proof.Layout.Final.lean ====
/- The rearrangement of the input projection's weights: the columns of the merge first, then the mixers' in order, without the
   sixteen narrow ones, keys and values last. -/
module

public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ValueKit.Point

@[expose] public section

set_option maxRecDepth 16384

noncomputable section

namespace Cert.Reference6Ideal.Layout

open Idealize.ShloMosaic Idealize.ShloMosaic.TcCoe Idealize.ShloMosaic.Tactic Idealize.SL.Sem
open Cert.Reference6Ideal Cert.Reference6Ideal.Gen Cert.Reference6Ideal.Value

/-- The weights' groups of columns, in the new order. -/
def gathered {F : FTy → Type} [FloatOps F] (A : Vec F S2x2048x19984 .f32) : Vec F S2x2048x19968 .f32 :=
  ((concatenate S2x2048x19968 2 [⟨S2x2048x8192, ((extractStridedSlice S2x2048x8192 ![0, 0, 11792] A slices_S2x2048x19984_S2x2048x8192_0_0_11792) : (⟨S2x2048x8192, .f32⟩ : BufTy).Contents (Elt F))⟩, ⟨S2x2048x1024, ((extractStridedSlice S2x2048x1024 ![0, 0, 0] A slices_S2x2048x19984_S2x2048x1024_0_0_0) : (⟨S2x2048x1024, .f32⟩ : BufTy).Contents (Elt F))⟩, ⟨S2x2048x2048, ((extractStridedSlice S2x2048x2048 ![0, 0, 1024] A slices_S2x2048x19984_S2x2048x2048_0_0_1024) : (⟨S2x2048x2048, .f32⟩ : BufTy).Contents (Elt F))⟩, ⟨S2x2048x1024, ((extractStridedSlice S2x2048x1024 ![0, 0, 3088] A slices_S2x2048x19984_S2x2048x1024_0_0_3088) : (⟨S2x2048x1024, .f32⟩ : BufTy).Contents (Elt F))⟩, ⟨S2x2048x1024, ((extractStridedSlice S2x2048x1024 ![0, 0, 4624] A slices_S2x2048x19984_S2x2048x1024_0_0_4624) : (⟨S2x2048x1024, .f32⟩ : BufTy).Contents (Elt F))⟩, ⟨S2x2048x1024, ((extractStridedSlice S2x2048x1024 ![0, 0, 5648] A slices_S2x2048x19984_S2x2048x1024_0_0_5648) : (⟨S2x2048x1024, .f32⟩ : BufTy).Contents (Elt F))⟩, ⟨S2x2048x1024, ((extractStridedSlice S2x2048x1024 ![0, 0, 6672] A slices_S2x2048x19984_S2x2048x1024_0_0_6672) : (⟨S2x2048x1024, .f32⟩ : BufTy).Contents (Elt F))⟩, ⟨S2x2048x1024, ((extractStridedSlice S2x2048x1024 ![0, 0, 7696] A slices_S2x2048x19984_S2x2048x1024_0_0_7696) : (⟨S2x2048x1024, .f32⟩ : BufTy).Contents (Elt F))⟩, ⟨S2x2048x1024, ((extractStridedSlice S2x2048x1024 ![0, 0, 8720] A slices_S2x2048x19984_S2x2048x1024_0_0_8720) : (⟨S2x2048x1024, .f32⟩ : BufTy).Contents (Elt F))⟩, ⟨S2x2048x1024, ((extractStridedSlice S2x2048x1024 ![0, 0, 9744] A slices_S2x2048x19984_S2x2048x1024_0_0_9744) : (⟨S2x2048x1024, .f32⟩ : BufTy).Contents (Elt F))⟩, ⟨S2x2048x1024, ((extractStridedSlice S2x2048x1024 ![0, 0, 10768] A slices_S2x2048x19984_S2x2048x1024_0_0_10768) : (⟨S2x2048x1024, .f32⟩ : BufTy).Contents (Elt F))⟩, ⟨S2x2048x256, ((extractStridedSlice S2x2048x256 ![0, 0, 4112] A slices_S2x2048x19984_S2x2048x256_0_0_4112) : (⟨S2x2048x256, .f32⟩ : BufTy).Contents (Elt F))⟩, ⟨S2x2048x256, ((extractStridedSlice S2x2048x256 ![0, 0, 4368] A slices_S2x2048x19984_S2x2048x256_0_0_4368) : (⟨S2x2048x256, .f32⟩ : BufTy).Contents (Elt F))⟩] concatenates_S2x2048x8192_S2x2048x1024_S2x2048x2048_S2x2048x1024_S2x2048x1024_S2x2048x1024_S2x2048x1024_S2x2048x1024_S2x2048x1024_S2x2048x1024_S2x2048x1024_S2x2048x256_S2x2048x256_S2x2048x19968_d2 : (⟨S2x2048x19968, .f32⟩ : BufTy).Contents (Elt F)))

/-- The same, rounded. -/
def arranged {F : FTy → Type} [FloatOps F] (A : Vec F S2x2048x19984 .f32) : Vec F S2x2048x19968 .bf16 :=
  truncf .bf16 (gathered A) bitsLt_bf16_f32

/-- The column that a rearranged column was. -/
def source (n : ℕ) : ℕ := if n < 8192 then n + 11792 else if n < 11264 then n - 8192 else if n < 12288 then n - 8176
  else if n < 19456 then n - 7664 else n - 15344

/-- The columns from `0` on are those from `11792` on. -/
theorem piece0 (A : Vec Ideal S2x2048x19984 .f32) (l : Fin 2) (d : Fin 2048) (n : Fin 19968) (j : Fin 8192) (k : Fin 19984)
    (hj : n.val = 0 + j.val) (hk : k.val = 11792 + j.val) : gathered A (ix3 l d n) = A (ix3 l d k) := by
  unfold gathered
  refine (concatenate_apply_piece 2 _ _ (ix3 l d n) 0 (Nat.le_of_ble_eq_true rfl) S2x2048x8192
    (extractStridedSlice S2x2048x8192 ![0, 0, 11792] A slices_S2x2048x19984_S2x2048x8192_0_0_11792) rfl rfl 0
    (by show (List.map (fun s : Shape => if h : s.rank = S2x2048x19968.rank then s.size (Fin.cast h.symm 2) else 0) []).sum = 0; decide +kernel)
    (ix3 l d j) (fun b hb => by match b with | ⟨0, _⟩ => rfl | ⟨1, _⟩ => rfl | ⟨2, _⟩ => exact absurd rfl hb) (by show 0 + j.val = n.val; omega)).trans ?_
  rw [show k = ⟨11792 + j.val, by have := j.isLt; omega⟩ from Fin.ext hk]
  pointwise

/-- The columns from `8192` on are those from `0` on. -/
theorem piece1 (A : Vec Ideal S2x2048x19984 .f32) (l : Fin 2) (d : Fin 2048) (n : Fin 19968) (j : Fin 1024) (k : Fin 19984)
    (hj : n.val = 8192 + j.val) (hk : k.val = 0 + j.val) : gathered A (ix3 l d n) = A (ix3 l d k) := by
  unfold gathered
  refine (concatenate_apply_piece 2 _ _ (ix3 l d n) 1 (Nat.le_of_ble_eq_true rfl) S2x2048x1024
    (extractStridedSlice S2x2048x1024 ![0, 0, 0] A slices_S2x2048x19984_S2x2048x1024_0_0_0) rfl rfl 8192
    (by show (List.map (fun s : Shape => if h : s.rank = S2x2048x19968.rank then s.size (Fin.cast h.symm 2) else 0) [S2x2048x8192]).sum = 8192; decide +kernel)
    (ix3 l d j) (fun b hb => by match b with | ⟨0, _⟩ => rfl | ⟨1, _⟩ => rfl | ⟨2, _⟩ => exact absurd rfl hb) (by show 8192 + j.val = n.val; omega)).trans ?_
  rw [show k = ⟨0 + j.val, by have := j.isLt; omega⟩ from Fin.ext hk]
  pointwise

/-- The columns from `9216` on are those from `1024` on. -/
theorem piece2 (A : Vec Ideal S2x2048x19984 .f32) (l : Fin 2) (d : Fin 2048) (n : Fin 19968) (j : Fin 2048) (k : Fin 19984)
    (hj : n.val = 9216 + j.val) (hk : k.val = 1024 + j.val) : gathered A (ix3 l d n) = A (ix3 l d k) := by
  unfold gathered
  refine (concatenate_apply_piece 2 _ _ (ix3 l d n) 2 (Nat.le_of_ble_eq_true rfl) S2x2048x2048
    (extractStridedSlice S2x2048x2048 ![0, 0, 1024] A slices_S2x2048x19984_S2x2048x2048_0_0_1024) rfl rfl 9216
    (by show (List.map (fun s : Shape => if h : s.rank = S2x2048x19968.rank then s.size (Fin.cast h.symm 2) else 0) [S2x2048x8192, S2x2048x1024]).sum = 9216; decide +kernel)
    (ix3 l d j) (fun b hb => by match b with | ⟨0, _⟩ => rfl | ⟨1, _⟩ => rfl | ⟨2, _⟩ => exact absurd rfl hb) (by show 9216 + j.val = n.val; omega)).trans ?_
  rw [show k = ⟨1024 + j.val, by have := j.isLt; omega⟩ from Fin.ext hk]
  pointwise

/-- The columns from `11264` on are those from `3088` on. -/
theorem piece3 (A : Vec Ideal S2x2048x19984 .f32) (l : Fin 2) (d : Fin 2048) (n : Fin 19968) (j : Fin 1024) (k : Fin 19984)
    (hj : n.val = 11264 + j.val) (hk : k.val = 3088 + j.val) : gathered A (ix3 l d n) = A (ix3 l d k) := by
  unfold gathered
  refine (concatenate_apply_piece 2 _ _ (ix3 l d n) 3 (Nat.le_of_ble_eq_true rfl) S2x2048x1024
    (extractStridedSlice S2x2048x1024 ![0, 0, 3088] A slices_S2x2048x19984_S2x2048x1024_0_0_3088) rfl rfl 11264
    (by show (List.map (fun s : Shape => if h : s.rank = S2x2048x19968.rank then s.size (Fin.cast h.symm 2) else 0) [S2x2048x8192, S2x2048x1024, S2x2048x2048]).sum = 11264; decide +kernel)
    (ix3 l d j) (fun b hb => by match b with | ⟨0, _⟩ => rfl | ⟨1, _⟩ => rfl | ⟨2, _⟩ => exact absurd rfl hb) (by show 11264 + j.val = n.val; omega)).trans ?_
  rw [show k = ⟨3088 + j.val, by have := j.isLt; omega⟩ from Fin.ext hk]
  pointwise

/-- The columns from `12288` on are those from `4624` on. -/
theorem piece4 (A : Vec Ideal S2x2048x19984 .f32) (l : Fin 2) (d : Fin 2048) (n : Fin 19968) (j : Fin 1024) (k : Fin 19984)
    (hj : n.val = 12288 + j.val) (hk : k.val = 4624 + j.val) : gathered A (ix3 l d n) = A (ix3 l d k) := by
  unfold gathered
  refine (concatenate_apply_piece 2 _ _ (ix3 l d n) 4 (Nat.le_of_ble_eq_true rfl) S2x2048x1024
    (extractStridedSlice S2x2048x1024 ![0, 0, 4624] A slices_S2x2048x19984_S2x2048x1024_0_0_4624) rfl rfl 12288
    (by show (List.map (fun s : Shape => if h : s.rank = S2x2048x19968.rank then s.size (Fin.cast h.symm 2) else 0) [S2x2048x8192, S2x2048x1024, S2x2048x2048, S2x2048x1024]).sum = 12288; decide +kernel)
    (ix3 l d j) (fun b hb => by match b with | ⟨0, _⟩ => rfl | ⟨1, _⟩ => rfl | ⟨2, _⟩ => exact absurd rfl hb) (by show 12288 + j.val = n.val; omega)).trans ?_
  rw [show k = ⟨4624 + j.val, by have := j.isLt; omega⟩ from Fin.ext hk]
  pointwise

/-- The columns from `13312` on are those from `5648` on. -/
theorem piece5 (A : Vec Ideal S2x2048x19984 .f32) (l : Fin 2) (d : Fin 2048) (n : Fin 19968) (j : Fin 1024) (k : Fin 19984)
    (hj : n.val = 13312 + j.val) (hk : k.val = 5648 + j.val) : gathered A (ix3 l d n) = A (ix3 l d k) := by
  unfold gathered
  refine (concatenate_apply_piece 2 _ _ (ix3 l d n) 5 (Nat.le_of_ble_eq_true rfl) S2x2048x1024
    (extractStridedSlice S2x2048x1024 ![0, 0, 5648] A slices_S2x2048x19984_S2x2048x1024_0_0_5648) rfl rfl 13312
    (by show (List.map (fun s : Shape => if h : s.rank = S2x2048x19968.rank then s.size (Fin.cast h.symm 2) else 0) [S2x2048x8192, S2x2048x1024, S2x2048x2048, S2x2048x1024, S2x2048x1024]).sum = 13312; decide +kernel)
    (ix3 l d j) (fun b hb => by match b with | ⟨0, _⟩ => rfl | ⟨1, _⟩ => rfl | ⟨2, _⟩ => exact absurd rfl hb) (by show 13312 + j.val = n.val; omega)).trans ?_
  rw [show k = ⟨5648 + j.val, by have := j.isLt; omega⟩ from Fin.ext hk]
  pointwise

/-- The columns from `14336` on are those from `6672` on. -/
theorem piece6 (A : Vec Ideal S2x2048x19984 .f32) (l : Fin 2) (d : Fin 2048) (n : Fin 19968) (j : Fin 1024) (k : Fin 19984)
    (hj : n.val = 14336 + j.val) (hk : k.val = 6672 + j.val) : gathered A (ix3 l d n) = A (ix3 l d k) := by
  unfold gathered
  refine (concatenate_apply_piece 2 _ _ (ix3 l d n) 6 (Nat.le_of_ble_eq_true rfl) S2x2048x1024
    (extractStridedSlice S2x2048x1024 ![0, 0, 6672] A slices_S2x2048x19984_S2x2048x1024_0_0_6672) rfl rfl 14336
    (by show (List.map (fun s : Shape => if h : s.rank = S2x2048x19968.rank then s.size (Fin.cast h.symm 2) else 0) [S2x2048x8192, S2x2048x1024, S2x2048x2048, S2x2048x1024, S2x2048x1024, S2x2048x1024]).sum = 14336; decide +kernel)
    (ix3 l d j) (fun b hb => by match b with | ⟨0, _⟩ => rfl | ⟨1, _⟩ => rfl | ⟨2, _⟩ => exact absurd rfl hb) (by show 14336 + j.val = n.val; omega)).trans ?_
  rw [show k = ⟨6672 + j.val, by have := j.isLt; omega⟩ from Fin.ext hk]
  pointwise

/-- The columns from `15360` on are those from `7696` on. -/
theorem piece7 (A : Vec Ideal S2x2048x19984 .f32) (l : Fin 2) (d : Fin 2048) (n : Fin 19968) (j : Fin 1024) (k : Fin 19984)
    (hj : n.val = 15360 + j.val) (hk : k.val = 7696 + j.val) : gathered A (ix3 l d n) = A (ix3 l d k) := by
  unfold gathered
  refine (concatenate_apply_piece 2 _ _ (ix3 l d n) 7 (Nat.le_of_ble_eq_true rfl) S2x2048x1024
    (extractStridedSlice S2x2048x1024 ![0, 0, 7696] A slices_S2x2048x19984_S2x2048x1024_0_0_7696) rfl rfl 15360
    (by show (List.map (fun s : Shape => if h : s.rank = S2x2048x19968.rank then s.size (Fin.cast h.symm 2) else 0) [S2x2048x8192, S2x2048x1024, S2x2048x2048, S2x2048x1024, S2x2048x1024, S2x2048x1024, S2x2048x1024]).sum = 15360; decide +kernel)
    (ix3 l d j) (fun b hb => by match b with | ⟨0, _⟩ => rfl | ⟨1, _⟩ => rfl | ⟨2, _⟩ => exact absurd rfl hb) (by show 15360 + j.val = n.val; omega)).trans ?_
  rw [show k = ⟨7696 + j.val, by have := j.isLt; omega⟩ from Fin.ext hk]
  pointwise

/-- The columns from `16384` on are those from `8720` on. -/
theorem piece8 (A : Vec Ideal S2x2048x19984 .f32) (l : Fin 2) (d : Fin 2048) (n : Fin 19968) (j : Fin 1024) (k : Fin 19984)
    (hj : n.val = 16384 + j.val) (hk : k.val = 8720 + j.val) : gathered A (ix3 l d n) = A (ix3 l d k) := by
  unfold gathered
  refine (concatenate_apply_piece 2 _ _ (ix3 l d n) 8 (Nat.le_of_ble_eq_true rfl) S2x2048x1024
    (extractStridedSlice S2x2048x1024 ![0, 0, 8720] A slices_S2x2048x19984_S2x2048x1024_0_0_8720) rfl rfl 16384
    (by show (List.map (fun s : Shape => if h : s.rank = S2x2048x19968.rank then s.size (Fin.cast h.symm 2) else 0) [S2x2048x8192, S2x2048x1024, S2x2048x2048, S2x2048x1024, S2x2048x1024, S2x2048x1024, S2x2048x1024, S2x2048x1024]).sum = 16384; decide +kernel)
    (ix3 l d j) (fun b hb => by match b with | ⟨0, _⟩ => rfl | ⟨1, _⟩ => rfl | ⟨2, _⟩ => exact absurd rfl hb) (by show 16384 + j.val = n.val; omega)).trans ?_
  rw [show k = ⟨8720 + j.val, by have := j.isLt; omega⟩ from Fin.ext hk]
  pointwise

/-- The columns from `17408` on are those from `9744` on. -/
theorem piece9 (A : Vec Ideal S2x2048x19984 .f32) (l : Fin 2) (d : Fin 2048) (n : Fin 19968) (j : Fin 1024) (k : Fin 19984)
    (hj : n.val = 17408 + j.val) (hk : k.val = 9744 + j.val) : gathered A (ix3 l d n) = A (ix3 l d k) := by
  unfold gathered
  refine (concatenate_apply_piece 2 _ _ (ix3 l d n) 9 (Nat.le_of_ble_eq_true rfl) S2x2048x1024
    (extractStridedSlice S2x2048x1024 ![0, 0, 9744] A slices_S2x2048x19984_S2x2048x1024_0_0_9744) rfl rfl 17408
    (by show (List.map (fun s : Shape => if h : s.rank = S2x2048x19968.rank then s.size (Fin.cast h.symm 2) else 0) [S2x2048x8192, S2x2048x1024, S2x2048x2048, S2x2048x1024, S2x2048x1024, S2x2048x1024, S2x2048x1024, S2x2048x1024, S2x2048x1024]).sum = 17408; decide +kernel)
    (ix3 l d j) (fun b hb => by match b with | ⟨0, _⟩ => rfl | ⟨1, _⟩ => rfl | ⟨2, _⟩ => exact absurd rfl hb) (by show 17408 + j.val = n.val; omega)).trans ?_
  rw [show k = ⟨9744 + j.val, by have := j.isLt; omega⟩ from Fin.ext hk]
  pointwise

/-- The columns from `18432` on are those from `10768` on. -/
theorem piece10 (A : Vec Ideal S2x2048x19984 .f32) (l : Fin 2) (d : Fin 2048) (n : Fin 19968) (j : Fin 1024) (k : Fin 19984)
    (hj : n.val = 18432 + j.val) (hk : k.val = 10768 + j.val) : gathered A (ix3 l d n) = A (ix3 l d k) := by
  unfold gathered
  refine (concatenate_apply_piece 2 _ _ (ix3 l d n) 10 (Nat.le_of_ble_eq_true rfl) S2x2048x1024
    (extractStridedSlice S2x2048x1024 ![0, 0, 10768] A slices_S2x2048x19984_S2x2048x1024_0_0_10768) rfl rfl 18432
    (by show (List.map (fun s : Shape => if h : s.rank = S2x2048x19968.rank then s.size (Fin.cast h.symm 2) else 0) [S2x2048x8192, S2x2048x1024, S2x2048x2048, S2x2048x1024, S2x2048x1024, S2x2048x1024, S2x2048x1024, S2x2048x1024, S2x2048x1024, S2x2048x1024]).sum = 18432; decide +kernel)
    (ix3 l d j) (fun b hb => by match b with | ⟨0, _⟩ => rfl | ⟨1, _⟩ => rfl | ⟨2, _⟩ => exact absurd rfl hb) (by show 18432 + j.val = n.val; omega)).trans ?_
  rw [show k = ⟨10768 + j.val, by have := j.isLt; omega⟩ from Fin.ext hk]
  pointwise

/-- The columns from `19456` on are those from `4112` on. -/
theorem piece11 (A : Vec Ideal S2x2048x19984 .f32) (l : Fin 2) (d : Fin 2048) (n : Fin 19968) (j : Fin 256) (k : Fin 19984)
    (hj : n.val = 19456 + j.val) (hk : k.val = 4112 + j.val) : gathered A (ix3 l d n) = A (ix3 l d k) := by
  unfold gathered
  refine (concatenate_apply_piece 2 _ _ (ix3 l d n) 11 (Nat.le_of_ble_eq_true rfl) S2x2048x256
    (extractStridedSlice S2x2048x256 ![0, 0, 4112] A slices_S2x2048x19984_S2x2048x256_0_0_4112) rfl rfl 19456
    (by show (List.map (fun s : Shape => if h : s.rank = S2x2048x19968.rank then s.size (Fin.cast h.symm 2) else 0) [S2x2048x8192, S2x2048x1024, S2x2048x2048, S2x2048x1024, S2x2048x1024, S2x2048x1024, S2x2048x1024, S2x2048x1024, S2x2048x1024, S2x2048x1024, S2x2048x1024]).sum = 19456; decide +kernel)
    (ix3 l d j) (fun b hb => by match b with | ⟨0, _⟩ => rfl | ⟨1, _⟩ => rfl | ⟨2, _⟩ => exact absurd rfl hb) (by show 19456 + j.val = n.val; omega)).trans ?_
  rw [show k = ⟨4112 + j.val, by have := j.isLt; omega⟩ from Fin.ext hk]
  pointwise

/-- The columns from `19712` on are those from `4368` on. -/
theorem piece12 (A : Vec Ideal S2x2048x19984 .f32) (l : Fin 2) (d : Fin 2048) (n : Fin 19968) (j : Fin 256) (k : Fin 19984)
    (hj : n.val = 19712 + j.val) (hk : k.val = 4368 + j.val) : gathered A (ix3 l d n) = A (ix3 l d k) := by
  unfold gathered
  refine (concatenate_apply_piece 2 _ _ (ix3 l d n) 12 (Nat.le_of_ble_eq_true rfl) S2x2048x256
    (extractStridedSlice S2x2048x256 ![0, 0, 4368] A slices_S2x2048x19984_S2x2048x256_0_0_4368) rfl rfl 19712
    (by show (List.map (fun s : Shape => if h : s.rank = S2x2048x19968.rank then s.size (Fin.cast h.symm 2) else 0) [S2x2048x8192, S2x2048x1024, S2x2048x2048, S2x2048x1024, S2x2048x1024, S2x2048x1024, S2x2048x1024, S2x2048x1024, S2x2048x1024, S2x2048x1024, S2x2048x1024, S2x2048x256]).sum = 19712; decide +kernel)
    (ix3 l d j) (fun b hb => by match b with | ⟨0, _⟩ => rfl | ⟨1, _⟩ => rfl | ⟨2, _⟩ => exact absurd rfl hb) (by show 19712 + j.val = n.val; omega)).trans ?_
  rw [show k = ⟨4368 + j.val, by have := j.isLt; omega⟩ from Fin.ext hk]
  pointwise

/-- An entry of the rearranged weights. -/
theorem gathered_at (A : Vec Ideal S2x2048x19984 .f32) (l : Fin 2) (d : Fin 2048) (n : Fin 19968) (k : Fin 19984) (hk : k.val = source n.val) :
    gathered A (ix3 l d n) = A (ix3 l d k) := by
  have hn := n.isLt
  unfold source at hk
  by_cases h0 : n.val < 8192
  · exact piece0 A l d n ⟨n.val - 0, by omega⟩ k (by simp only; omega) (by simp only; split_ifs at hk <;> omega)
  by_cases h1 : n.val < 9216
  · exact piece1 A l d n ⟨n.val - 8192, by omega⟩ k (by simp only; omega) (by simp only; split_ifs at hk <;> omega)
  by_cases h2 : n.val < 11264
  · exact piece2 A l d n ⟨n.val - 9216, by omega⟩ k (by simp only; omega) (by simp only; split_ifs at hk <;> omega)
  by_cases h3 : n.val < 12288
  · exact piece3 A l d n ⟨n.val - 11264, by omega⟩ k (by simp only; omega) (by simp only; split_ifs at hk <;> omega)
  by_cases h4 : n.val < 13312
  · exact piece4 A l d n ⟨n.val - 12288, by omega⟩ k (by simp only; omega) (by simp only; split_ifs at hk <;> omega)
  by_cases h5 : n.val < 14336
  · exact piece5 A l d n ⟨n.val - 13312, by omega⟩ k (by simp only; omega) (by simp only; split_ifs at hk <;> omega)
  by_cases h6 : n.val < 15360
  · exact piece6 A l d n ⟨n.val - 14336, by omega⟩ k (by simp only; omega) (by simp only; split_ifs at hk <;> omega)
  by_cases h7 : n.val < 16384
  · exact piece7 A l d n ⟨n.val - 15360, by omega⟩ k (by simp only; omega) (by simp only; split_ifs at hk <;> omega)
  by_cases h8 : n.val < 17408
  · exact piece8 A l d n ⟨n.val - 16384, by omega⟩ k (by simp only; omega) (by simp only; split_ifs at hk <;> omega)
  by_cases h9 : n.val < 18432
  · exact piece9 A l d n ⟨n.val - 17408, by omega⟩ k (by simp only; omega) (by simp only; split_ifs at hk <;> omega)
  by_cases h10 : n.val < 19456
  · exact piece10 A l d n ⟨n.val - 18432, by omega⟩ k (by simp only; omega) (by simp only; split_ifs at hk <;> omega)
  by_cases h11 : n.val < 19712
  · exact piece11 A l d n ⟨n.val - 19456, by omega⟩ k (by simp only; omega) (by simp only; split_ifs at hk <;> omega)
  by_cases h12 : n.val < 19968
  · exact piece12 A l d n ⟨n.val - 19712, by omega⟩ k (by simp only; omega) (by simp only; split_ifs at hk <;> omega)
  omega

/-- An entry of the rounded ones. -/
theorem arranged_at (A : Vec Ideal S2x2048x19984 .f32) (l : Fin 2) (d : Fin 2048) (n : Fin 19968) (k : Fin 19984) (hk : k.val = source n.val) :
    arranged A (ix3 l d n) = A (ix3 l d k) := gathered_at A l d n k hk

/-- The reference ends with the arranged weights, its argument unchanged. -/
theorem run_named {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15) = arranged (m ((c.tc : Thread nD τ).loc main_arg0))
      ∧ r.2.mem ((c.tc : Thread nD τ).loc main_arg0) = m ((c.tc : Thread nD τ).loc main_arg0) := by
  unfold arranged gathered
  exact run m ρ

end Cert.Reference6Ideal.Layout

namespace Cert.Kernel6Ideal.Layout

open Cert.Kernel6Ideal Cert.Kernel6Ideal.Gen Idealize.ShloMosaic Idealize.ShloMosaic.TcCoe Idealize.SL.Sem
open Idealize.ShloMosaic.Tactic
open Cert.Reference6Ideal.Layout (arranged arranged_at source)

variable (m : (ℓ : Loc nD τ sig) → Buf (Elt Ideal) ℓ)

/-- The element at which the rows read at a point begin, and the block written. -/
theorem idx : ∀ t : Fin cfg0.N, win0_0.index t = ![t.val / 39 * 19984 + source (t.val % 39 * 512), 0] ∧ win0_1.index t = ![t.val / 39, 0, t.val % 39] :=
  (by decide +kernel : ∀ t : Fin grid0.N, _)

/-- What a point leaves in the result's block. -/
theorem out_eq {F : FTy → Type} [FloatOps F] (x0 : Vec F S512x2048 .f32) : out0_1 x0 = k0_pay1 x0 := by
  unfold out0_1
  have e0 : View.ld x0 r0_0 = x0 := View.ld_unit_zero (funext fun a => by match a with | ⟨0, _⟩ => rfl | ⟨1, _⟩ => rfl) _ x0
  rw [e0]
  exact View.canon_cons_unit_zero (funext fun a => by match a with | ⟨0, _⟩ => rfl | ⟨1, _⟩ => rfl | ⟨2, _⟩ => rfl) _ _ _

/-- The result is the arranged weights. -/
theorem final (c : Dev nD) : (dats m 0 c).arrAt 1 cfg0.N = arranged (m ((c.tc : Thread nD τ).loc main_arg0)) := by
  refine (dats m 0 c).arrAt_eq_of_covers 1 _ (by decide +kernel) fun t hf y => ?_
  blk_simp [idx t]
  rw [after0_1, out_eq]
  have ht : t.val < 78 := t.isLt
  idx_vars y
  have hs : source (512 * (t.val % 39) + y2.val) = source (t.val % 39 * 512) + y2.val := by
    unfold source; split_ifs <;> omega
  have hb : source (t.val % 39 * 512) + 512 ≤ 19984 := by unfold source; split_ifs <;> omega
  rw [show ((View.whole main_v2).slice (win0_1.rect t)).emb (ix3 y0 y1 y2)
      = ix3 ⟨t.val / 39, by omega⟩ y1 ⟨512 * (t.val % 39) + y2.val, by omega⟩ from by blk_ext [idx t],
    arranged_at _ _ _ _ ⟨source (t.val % 39 * 512) + y2.val, by omega⟩ hs.symm]
  pointwise [k0_pay1]
  blk_point [iblk, V, idx t]
  all_goals
    have e0 : (((View.whole main_v1).slice (win0_0.rect t)).emb (ix2 y2 y1) 0).val = win0_0.index t 0 + 1 * y2.val := rfl
    have e1 : (((View.whole main_v1).slice (win0_0.rect t)).emb (ix2 y2 y1) 1).val = win0_0.index t 1 + 1 * y1.val := rfl
    rw [(idx t).1] at e0 e1
    simp only [Matrix.cons_val_zero, Matrix.cons_val_one] at e0 e1
    omega

end Cert.Kernel6Ideal.Layout

end
-- ==== Proof.lean ====
/- The claims of Defs.lean, put together from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.KernelIdeal.Value
public import proofs.«01_k».proof.Proof.Gen.ReferenceIdeal.Run
public import proofs.«01_k».proof.Proof.Mix.RefLoop
public import proofs.«01_k».proof.Proof.Mix.PointsA
public import proofs.«01_k».proof.Proof.Mix.PointsB
public import proofs.«01_k».proof.Proof.Mix.Scalar
public import proofs.«01_k».proof.Proof.Mix.RefPoint
public import proofs.«01_k».proof.Proof.Mix.HostPoint
public import proofs.«01_k».proof.Proof.Mix.TilePoint
public import proofs.«01_k».proof.Proof.Mix.Join
public import proofs.«01_k».proof.Proof.Mix.Grid
public import proofs.«01_k».proof.Proof.Mix.Final
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Proj.Body
public import proofs.«01_k».proof.Proof.Proj.BodyI
public import proofs.«01_k».proof.Proof.Proj.Grid
public import proofs.«01_k».proof.Proof.Proj.GridI
public import proofs.«01_k».proof.Proof.Proj.Ref
public import proofs.«01_k».proof.Proof.Proj.Final
public import proofs.«01_k».proof.Proof.Merge.Ref
public import proofs.«01_k».proof.Proof.Merge.Grid
public import proofs.«01_k».proof.Proof.Ada.Final
public import proofs.«01_k».proof.Proof.Rope.Final
public import proofs.«01_k».proof.Proof.Layout.Final
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference of the convolution and recurrence runs, keeps its arguments, and declares no semaphore. -/
theorem frame_ref : Cert.quiescent_ReferenceIdeal (hReferenceIdeal := Cert.ReferenceIdeal.Gen.facts) := fun m g _ =>
  (θ_run _ _ _).mono (fun r h => ⟨fun c => (h c).2.2, sem_eq_zero_of_no_sems rfl _⟩) (Cert.ReferenceIdeal.Value.run (F := Ideal) (m := m) (ρ := g))

/-- The reference of the merge runs, keeps its arguments, and declares no semaphore. -/
theorem frame_ref3 : Cert.quiescent_Reference3Ideal (hReference3Ideal := Cert.Reference3Ideal.Gen.facts) := fun m g _ =>
  (θ_run _ _ _).mono (fun r h => ⟨fun c => (h c).2, sem_eq_zero_of_no_sems rfl _⟩) (Cert.Reference3Ideal.Value.run (F := Ideal) m g)

/-- The reference of the projection runs, keeps its arguments, and declares no semaphore. -/
theorem frame_ref2 : Cert.quiescent_Reference2Ideal (hReference2Ideal := Cert.Reference2Ideal.Gen.facts) := fun m g _ =>
  (θ_run _ _ _).mono (fun r h => ⟨fun c => (h c).2.2, sem_eq_zero_of_no_sems rfl _⟩) (Cert.Reference2Ideal.Value.run (F := Ideal) m g)

/-- The convolution and recurrence call and its reference, from equal arguments, end with equal results: the gated short
    convolution, and the states of the recurrence, gated. -/
theorem mix : Cert.algebraic_KernelIdeal_ReferenceIdeal (hKernelIdeal := Cert.KernelIdeal.Gen.facts)
    (hReferenceIdeal := Cert.ReferenceIdeal.Gen.facts) := fun m g m' g' _ hargs => by
  refine ⟨fun c => Cert.KernelIdeal.Value.G13 m c, fun c => Cert.KernelIdeal.Value.G14 m c, Cert.KernelIdeal.Value.run m g, ?_⟩
  refine (θ_run _ _ _).mono (fun r h c => ?_) (Cert.ReferenceIdeal.Value.run (F := Ideal) (m := m') (ρ := g'))
  obtain ⟨a0, a1, a2, a3, a4, a5, a6, a7, a8⟩ := hargs c
  obtain ⟨h0, h1, hk⟩ := h c
  refine ⟨h0.trans ((Cert.ReferenceIdeal.Loop.result_conv m' c).trans ?_), h1.trans ((Cert.ReferenceIdeal.Loop.result_scan m' c).trans ?_), hk⟩
  · rw [a0, a1]
    exact (Cert.KernelIdeal.Blocks.final_conv m c _).symm
  · rw [a0]
    refine (Cert.KernelIdeal.Blocks.final_scan m c _ (fun b t d => ?_)).symm
    rw [Cert.ReferenceIdeal.Loop.st_hs m' c b d t 2048 t.isLt (le_refl _)]
    unfold Cert.ReferenceIdeal.Loop.hidM Cert.KernelIdeal.Blocks.hd
    rw [a0, a2, a3, a4, a5, a6, a7, a8]

/-- The projection and its reference, from equal arguments, end with equal results: both pairs are the modulated rows times
    the wide weights and times the narrow weights. -/
theorem proj : Cert.algebraic_Kernel2Ideal_Reference2Ideal (hKernel2Ideal := Cert.Kernel2Ideal.Gen.facts)
    (hReference2Ideal := Cert.Reference2Ideal.Gen.facts) := fun m g m' g' _ hargs => by
  refine ⟨fun c => (Cert.Kernel2Ideal.Proj.dats m 0 c).arrAt 5 Cert.Kernel2Ideal.cfg0.N, fun c => (Cert.Kernel2Ideal.Proj.dats m 0 c).arrAt 6 Cert.Kernel2Ideal.cfg0.N,
    Cert.Kernel2Ideal.Proj.run_results m g, ?_⟩
  refine (θ_run _ _ _).mono (fun r h c => ?_) (Cert.Reference2Ideal.Proj.run_named (F := Ideal) m' g')
  obtain ⟨a0, a1, a2, a3⟩ := hargs c
  obtain ⟨h0, h1, hk⟩ := h c
  rw [a0, a1, a2] at h0
  rw [a0, a1, a3] at h1
  exact ⟨h0.trans (Cert.Kernel2Ideal.Proj.final_wide m c).symm, h1.trans (Cert.Kernel2Ideal.Proj.final_narrow m c).symm, hk⟩

/-- The merge and its reference, from equal arguments, end with equal results: both are the layer norm of the residual
    of the four mixed branches. -/
theorem merge : Cert.algebraic_Kernel3Ideal_Reference3Ideal (hKernel3Ideal := Cert.Kernel3Ideal.Gen.facts)
    (hReference3Ideal := Cert.Reference3Ideal.Gen.facts) := fun m g m' g' _ hargs => by
  refine ⟨fun c => (Cert.Kernel3Ideal.Gen.dats m 0 c).arrAt 12 Cert.Kernel3Ideal.cfg0.N, Cert.Kernel3Ideal.Value.run_blocks m g, ?_⟩
  refine (θ_run _ _ _).mono (fun r h c => ⟨(h c).1.trans ?_, (h c).2⟩) (Cert.Reference3Ideal.Value.run (F := Ideal) m' g')
  obtain ⟨a0, a1, a2, a3, a4, a5, a6, a7, a8, a9, a10, a11⟩ := hargs c
  refine (Cert.Reference3Ideal.Merge.result_eq m' c).trans ?_
  rw [a0, a1, a2, a3, a4, a5, a6, a7, a8, a9, a10, a11]
  exact (Cert.Kernel3Ideal.Merge.final m c).symm

/-- The reference of the conditioning runs, keeps its arguments, and declares no semaphore. -/
theorem frame_ref4 : Cert.quiescent_Reference4Ideal (hReference4Ideal := Cert.Reference4Ideal.Gen.facts) := fun m g _ =>
  (θ_run _ _ _).mono (fun r h => ⟨fun c => (h c).2, sem_eq_zero_of_no_sems rfl _⟩) (Cert.Reference4Ideal.Ada.run_named (F := Ideal) m g)

/-- The conditioning and its reference, from equal arguments, end with equal results: the activated condition times the
    layer's weights, plus its bias. -/
theorem ada : Cert.algebraic_Kernel4Ideal_Reference4Ideal (hKernel4Ideal := Cert.Kernel4Ideal.Gen.facts)
    (hReference4Ideal := Cert.Reference4Ideal.Gen.facts) := fun m g m' g' _ hargs => by
  refine ⟨fun c => (Cert.Kernel4Ideal.Gen.dats m 0 c).arrAt 3 Cert.Kernel4Ideal.cfg0.N, Cert.Kernel4Ideal.Value.run_blocks m g, ?_⟩
  refine (θ_run _ _ _).mono (fun r h c => ⟨(h c).1.trans ?_, (h c).2⟩) (Cert.Reference4Ideal.Ada.run_named (F := Ideal) m' g')
  obtain ⟨a0, a1, a2⟩ := hargs c
  rw [a0, a1, a2]
  exact (Cert.Kernel4Ideal.Ada.final m c).symm

/-- The reference of the rotary tables runs, keeps its argument, and declares no semaphore. -/
theorem frame_ref5 : Cert.quiescent_Reference5Ideal (hReference5Ideal := Cert.Reference5Ideal.Gen.facts) := fun m g _ =>
  (θ_run _ _ _).mono (fun r h => ⟨fun c => (h c).2.2, sem_eq_zero_of_no_sems rfl _⟩) (Cert.Reference5Ideal.Rope.run_named (F := Ideal) m g)

/-- The rotary tables and their reference, from equal positions, end with equal results: the cosines, and the signed sines,
    of the positions times the frequencies. -/
theorem rope : Cert.algebraic_Kernel5Ideal_Reference5Ideal (hKernel5Ideal := Cert.Kernel5Ideal.Gen.facts)
    (hReference5Ideal := Cert.Reference5Ideal.Gen.facts) := fun m g m' g' _ hargs => by
  refine ⟨fun c => (Cert.Kernel5Ideal.Gen.dats m 0 c).arrAt 2 Cert.Kernel5Ideal.cfg0.N, fun c => (Cert.Kernel5Ideal.Gen.dats m 0 c).arrAt 3 Cert.Kernel5Ideal.cfg0.N,
    Cert.Kernel5Ideal.Rope.run_arrays m g, ?_⟩
  refine (θ_run _ _ _).mono (fun r h c => ?_) (Cert.Reference5Ideal.Rope.run_named (F := Ideal) m' g')
  have a0 := hargs c
  obtain ⟨h0, h1, hk⟩ := h c
  rw [a0] at h0 h1
  exact ⟨h0.trans (Cert.Kernel5Ideal.Rope.final_cos m c).symm, h1.trans (Cert.Kernel5Ideal.Rope.final_sin m c).symm, hk⟩

/-- The reference of the weights' rearrangement runs, keeps its argument, and declares no semaphore. -/
theorem frame_ref6 : Cert.quiescent_Reference6Ideal (hReference6Ideal := Cert.Reference6Ideal.Gen.facts) := fun m g _ =>
  (θ_run _ _ _).mono (fun r h => ⟨fun c => (h c).2, sem_eq_zero_of_no_sems rfl _⟩) (Cert.Reference6Ideal.Layout.run_named (F := Ideal) m g)

/-- The weights' rearrangement and its reference, from equal weights, end with equal results: the groups of columns in the
    new order. -/
theorem layout : Cert.algebraic_Kernel6Ideal_Reference6Ideal (hKernel6Ideal := Cert.Kernel6Ideal.Gen.facts)
    (hReference6Ideal := Cert.Reference6Ideal.Gen.facts) := fun m g m' g' _ hargs => by
  refine ⟨fun c => (Cert.Kernel6Ideal.Gen.dats m 0 c).arrAt 1 Cert.Kernel6Ideal.cfg0.N, Cert.Kernel6Ideal.Value.run_blocks m g, ?_⟩
  refine (θ_run _ _ _).mono (fun r h c => ⟨(h c).1.trans ?_, (h c).2⟩) (Cert.Reference6Ideal.Layout.run_named (F := Ideal) m' g')
  have a0 := hargs c
  rw [a0]
  exact (Cert.Kernel6Ideal.Layout.final m c).symm

/-- Everything claimed. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  fun m ρ _ => Cert.Kernel.Gen.frame m ρ, fun m ρ _ => Cert.KernelIdeal.Gen.frame m ρ, frame_ref,
  fun m ρ _ => Cert.Kernel2.Proj.frame m ρ, fun m ρ _ => Cert.Kernel2Ideal.Proj.frame m ρ, frame_ref2,
  fun m ρ _ => Cert.Kernel3.Gen.frame m ρ, fun m ρ _ => Cert.Kernel3Ideal.Gen.frame m ρ, frame_ref3,
  fun m ρ _ => Cert.Kernel4.Gen.frame m ρ, fun m ρ _ => Cert.Kernel4Ideal.Gen.frame m ρ, frame_ref4,
  fun m ρ _ => Cert.Kernel5.Gen.frame m ρ, fun m ρ _ => Cert.Kernel5Ideal.Gen.frame m ρ, frame_ref5,
  fun m ρ _ => Cert.Kernel6.Gen.frame m ρ, fun m ρ _ => Cert.Kernel6Ideal.Gen.frame m ρ, frame_ref6,
  trivial, mix, trivial, proj, trivial, merge, trivial, ada, trivial, rope, trivial, layout⟩

end Cert.Proof

end
